-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_d" .f32 0x39AAAAAB#32 ((1 / 3072 : ℝ) : EReal)

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_ordinary : Cert.Pre_ordinary.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ preserves_Kernel_KernelIdeal
    ∧ algebraic_KernelIdeal_ReferenceIdeal_pre_ordinary (hKernelIdeal := hKernelIdeal) (hReferenceIdeal := hReferenceIdeal) (hPre_ordinary := hPre_ordinary)
-- ==== Pre_ordinary.lean ====
abbrev S16x6144x3072 : Shape := ⟨3, ![16, 6144, 3072]⟩
abbrev S16x3072 : Shape := ⟨2, ![16, 3072]⟩
abbrev S3072x64 : Shape := ⟨2, ![3072, 64]⟩
abbrev S64 : Shape := ⟨1, ![64]⟩
abbrev S8 : Shape := ⟨1, ![8]⟩
abbrev S8x16x192x128 : Shape := ⟨4, ![8, 16, 192, 128]⟩
abbrev S16 : Shape := ⟨1, ![16]⟩
abbrev S_ : Shape := ⟨0, ![]⟩

class Facts : Prop where
  bitsLt_bf16_f32 : FTy.bits .bf16 < FTy.bits .f32
  bcast_S_S16x6144x3072 : S_.BroadcastsInDim S16x6144x3072 (![] : Fin 0 → Fin S16x6144x3072.rank)
  bcast_S_S16 : S_.BroadcastsInDim S16 (![] : Fin 0 → Fin S16.rank)

variable [Facts]

def fn {F : FTy → Type} [FloatOps F] (main_arg0 : FVec F S16x6144x3072 .bf16) (main_arg1 : FVec F S16x3072 .f32) (main_arg2 : FVec F S16x3072 .f32) (main_arg3 : FVec F S3072x64 .fp8e4m3) (main_arg4 : FVec F S64 .f32) (main_arg5 : FVec F S64 .f32) (main_arg6 : FVec F S8 .f32) (main_arg7 : FVec F S8 .f32) (main_arg8 : FVec F S8 .f32) (main_arg9 : FVec F S8x16x192x128 .f32) (main_arg10 : FVec F S16 .f32) : IVec S16x6144x3072 1 × IVec S16 1 :=
  let main_v0 : FVec F S16x6144x3072 .f32 := (extf .f32 · bitsLt_bf16_f32) main_arg0
  let main_v1 : FVec F S16x6144x3072 .f32 := Host.absf main_v0
  let main_cst : FVec F S_ .f32 := constant S_ .f32 0x7F800000#32
  let main_v2 : FVec F S16x6144x3072 .f32 := broadcastInDim S16x6144x3072 ![] bcast_S_S16x6144x3072 main_cst
  let main_v3 : IVec S16x6144x3072 1 := cmpf .olt main_v1 main_v2
  let main_cst_0 : FVec F S_ .f32 := constant S_ .f32 0x00000000#32
  let main_v4 : FVec F S16 .f32 := broadcastInDim S16 ![] bcast_S_S16 main_cst_0
  let main_v5 : IVec S16 1 := cmpf .ogt main_arg10 main_v4
  let main_cst_1 : FVec F S_ .f32 := constant S_ .f32 0x7F800000#32
  let main_v6 : FVec F S16 .f32 := broadcastInDim S16 ![] bcast_S_S16 main_cst_1
  let main_v7 : IVec S16 1 := cmpf .olt main_arg10 main_v6
  let main_v8 : IVec S16 1 := andi main_v5 main_v7
  (main_v3, main_v8)
-- ==== Kernel.lean ====
abbrev S16x6144x3072 : Shape := ⟨3, ![16, 6144, 3072]⟩
abbrev S16x3072 : Shape := ⟨2, ![16, 3072]⟩
abbrev S3072x64 : Shape := ⟨2, ![3072, 64]⟩
abbrev S64 : Shape := ⟨1, ![64]⟩
abbrev S8 : Shape := ⟨1, ![8]⟩
abbrev S8x16x192x128 : Shape := ⟨4, ![8, 16, 192, 128]⟩
abbrev S16 : Shape := ⟨1, ![16]⟩
abbrev S2x8x6144x3072 : Shape := ⟨4, ![2, 8, 6144, 3072]⟩
abbrev S2x8x1x3072 : Shape := ⟨4, ![2, 8, 1, 3072]⟩
abbrev S64x3072 : Shape := ⟨2, ![64, 3072]⟩
abbrev S64x1 : Shape := ⟨2, ![64, 1]⟩
abbrev S2x8x1x6144 : Shape := ⟨4, ![2, 8, 1, 6144]⟩
abbrev S2x1x512x3072 : Shape := ⟨4, ![2, 1, 512, 3072]⟩
abbrev S2x1x1x3072 : Shape := ⟨4, ![2, 1, 1, 3072]⟩
abbrev S1x16x16x128 : Shape := ⟨4, ![1, 16, 16, 128]⟩
abbrev S2x1x1x512 : Shape := ⟨4, ![2, 1, 1, 512]⟩
abbrev S2x8x3072 : Shape := ⟨3, ![2, 8, 3072]⟩
abbrev S2x512x128 : Shape := ⟨3, ![2, 512, 128]⟩
abbrev S272x128 : Shape := ⟨2, ![272, 128]⟩
abbrev S1 : Shape := ⟨1, ![1]⟩
abbrev S1x1x1x3072 : Shape := ⟨4, ![1, 1, 1, 3072]⟩
abbrev S1x3072 : Shape := ⟨2, ![1, 3072]⟩
abbrev S8x3072 : Shape := ⟨2, ![8, 3072]⟩
abbrev S1x8x3072 : Shape := ⟨3, ![1, 8, 3072]⟩
abbrev S32x128 : Shape := ⟨2, ![32, 128]⟩
abbrev S1x1x32x128 : Shape := ⟨4, ![1, 1, 32, 128]⟩
abbrev S32 : Shape := ⟨1, ![32]⟩
abbrev S32x1 : Shape := ⟨2, ![32, 1]⟩
abbrev S1x8x128 : Shape := ⟨3, ![1, 8, 128]⟩
abbrev S8x128 : Shape := ⟨2, ![8, 128]⟩
abbrev S1x32x128 : Shape := ⟨3, ![1, 32, 128]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1x1x1x128 : Shape := ⟨4, ![1, 1, 1, 128]⟩
abbrev S1x1x128x3072 : Shape := ⟨4, ![1, 1, 128, 3072]⟩
abbrev S128x3072 : Shape := ⟨2, ![128, 3072]⟩
abbrev S64x128 : Shape := ⟨2, ![64, 128]⟩
abbrev S8x128x1 : Shape := ⟨3, ![8, 128, 1]⟩
abbrev S16x128 : Shape := ⟨2, ![16, 128]⟩
abbrev S1x1x16x128 : Shape := ⟨4, ![1, 1, 16, 128]⟩

abbrev nBuf : Space → Nat
  | .hbm => 21
  | .vmem => 23
  | .smem => 4
  | _ => 0

abbrev bufTy : (tb : Table) → Fin (tcTables nBuf tb) → BufTy
  | .hbm, ⟨0, _⟩ => ⟨S16x6144x3072, .bf16⟩
  | .hbm, ⟨1, _⟩ => ⟨S16x3072, .f32⟩
  | .hbm, ⟨2, _⟩ => ⟨S16x3072, .f32⟩
  | .hbm, ⟨3, _⟩ => ⟨S3072x64, .fp8e4m3⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8x16x192x128, .f32⟩
  | .hbm, ⟨10, _⟩ => ⟨S16, .f32⟩
  | .hbm, ⟨11, _⟩ => ⟨S2x8x6144x3072, .bf16⟩
  | .hbm, ⟨12, _⟩ => ⟨S2x8x1x3072, .f32⟩
  | .hbm, ⟨13, _⟩ => ⟨S2x8x1x3072, .f32⟩
  | .hbm, ⟨14, _⟩ => ⟨S64x3072, .fp8e4m3⟩
  | .hbm, ⟨15, _⟩ => ⟨S64x1, .f32⟩
  | .hbm, ⟨16, _⟩ => ⟨S64x1, .f32⟩
  | .hbm, ⟨17, _⟩ => ⟨S8x16x192x128, .f32⟩
  | .hbm, ⟨18, _⟩ => ⟨S8x16x192x128, .bf16⟩
  | .hbm, ⟨19, _⟩ => ⟨S2x8x6144x3072, .fp8e4m3⟩
  | .hbm, ⟨20, _⟩ => ⟨S2x8x1x6144, .f32⟩
  | .local _ .vmem, ⟨0, _⟩ => ⟨S2x1x512x3072, .bf16⟩
  | .local _ .vmem, ⟨1, _⟩ => ⟨S2x1x512x3072, .bf16⟩
  | .local _ .vmem, ⟨2, _⟩ => ⟨S2x1x1x3072, .f32⟩
  | .local _ .vmem, ⟨3, _⟩ => ⟨S2x1x1x3072, .f32⟩
  | .local _ .vmem, ⟨4, _⟩ => ⟨S2x1x1x3072, .f32⟩
  | .local _ .vmem, ⟨5, _⟩ => ⟨S2x1x1x3072, .f32⟩
  | .local _ .vmem, ⟨6, _⟩ => ⟨S64x3072, .fp8e4m3⟩
  | .local _ .vmem, ⟨7, _⟩ => ⟨S64x1, .f32⟩
  | .local _ .vmem, ⟨8, _⟩ => ⟨S64x1, .f32⟩
  | .local _ .vmem, ⟨9, _⟩ => ⟨S1x16x16x128, .f32⟩
  | .local _ .vmem, ⟨10, _⟩ => ⟨S1x16x16x128, .f32⟩
  | .local _ .vmem, ⟨11, _⟩ => ⟨S1x16x16x128, .f32⟩
  | .local _ .vmem, ⟨12, _⟩ => ⟨S1x16x16x128, .f32⟩
  | .local _ .vmem, ⟨13, _⟩ => ⟨S1x16x16x128, .bf16⟩
  | .local _ .vmem, ⟨14, _⟩ => ⟨S1x16x16x128, .bf16⟩
  | .local _ .vmem, ⟨15, _⟩ => ⟨S2x1x512x3072, .fp8e4m3⟩
  | .local _ .vmem, ⟨16, _⟩ => ⟨S2x1x512x3072, .fp8e4m3⟩
  | .local _ .vmem, ⟨17, _⟩ => ⟨S2x1x1x512, .f32⟩
  | .local _ .vmem, ⟨18, _⟩ => ⟨S2x1x1x512, .f32⟩
  | .local _ .vmem, ⟨19, _⟩ => ⟨S2x8x3072, .f32⟩
  | .local _ .vmem, ⟨20, _⟩ => ⟨S2x8x3072, .f32⟩
  | .local _ .vmem, ⟨21, _⟩ => ⟨S2x512x128, .f32⟩
  | .local _ .vmem, ⟨22, _⟩ => ⟨S272x128, .f32⟩
  | .local _ .smem, ⟨0, _⟩ => ⟨S16, .f32⟩
  | .local _ .smem, ⟨1, _⟩ => ⟨S8, .f32⟩
  | .local _ .smem, ⟨2, _⟩ => ⟨S8, .f32⟩
  | .local _ .smem, ⟨3, _⟩ => ⟨S8, .f32⟩
  | _, _ => ⟨S16x6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) (c0_i32_593 : BitVec 32) : Fin 1 → Nat :=
  let arg0 : BitVec 32 := BitVec.ofNat 32 (i 0).val
  let v1382 : BitVec 32 := Scalar.addi c0_i32_593 arg0
  let v1383 : Index := Scalar.indexCast v1382
  ![v1383.toNat]
@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  v1382
def k0_off2 (k0_t1 : Fin k0_t1_loop.trips) : Fin 4 → Nat :=
  let c0_595 : Index := 0#32
  let c0_596 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1386 : Index := Scalar.indexCast v1383
  let c0_597 : Index := 0#32
  ![0, 0, v1386.toNat, 0]
def k0_off3 (k0_t1 : Fin k0_t1_loop.trips) : Fin 4 → Nat :=
  let c0_598 : Index := 0#32
  let c0_599 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1393 : Index := Scalar.indexCast v1383
  let c128_600 : Index := 128#32
  ![0, 0, v1393.toNat, 128]
def k0_off4 (k0_t1 : Fin k0_t1_loop.trips) : Fin 4 → Nat :=
  let c0_601 : Index := 0#32
  let c0_602 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1400 : Index := Scalar.indexCast v1383
  let c256_603 : Index := 256#32
  ![0, 0, v1400.toNat, 256]
def k0_off5 (k0_t1 : Fin k0_t1_loop.trips) : Fin 4 → Nat :=
  let c0_604 : Index := 0#32
  let c0_605 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1407 : Index := Scalar.indexCast v1383
  let c384_606 : Index := 384#32
  ![0, 0, v1407.toNat, 384]
def k0_off6 (k0_t1 : Fin k0_t1_loop.trips) : Fin 4 → Nat :=
  let c0_607 : Index := 0#32
  let c0_608 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1414 : Index := Scalar.indexCast v1383
  let c512 : Index := 512#32
  ![0, 0, v1414.toNat, 512]
def k0_off7 (k0_t1 : Fin k0_t1_loop.trips) : Fin 4 → Nat :=
  let c0_609 : Index := 0#32
  let c0_610 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1421 : Index := Scalar.indexCast v1383
  let c640 : Index := 640#32
  ![0, 0, v1421.toNat, 640]
def k0_off8 (k0_t1 : Fin k0_t1_loop.trips) : Fin 4 → Nat :=
  let c0_611 : Index := 0#32
  let c0_612 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1428 : Index := Scalar.indexCast v1383
  let c768 : Index := 768#32
  ![0, 0, v1428.toNat, 768]
def k0_off9 (k0_t1 : Fin k0_t1_loop.trips) : Fin 4 → Nat :=
  let c0_613 : Index := 0#32
  let c0_614 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1435 : Index := Scalar.indexCast v1383
  let c896 : Index := 896#32
  ![0, 0, v1435.toNat, 896]
def k0_off10 (k0_t1 : Fin k0_t1_loop.trips) : Fin 4 → Nat :=
  let c0_615 : Index := 0#32
  let c0_616 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1442 : Index := Scalar.indexCast v1383
  let c1024 : Index := 1024#32
  ![0, 0, v1442.toNat, 1024]
def k0_off11 (k0_t1 : Fin k0_t1_loop.trips) : Fin 4 → Nat :=
  let c0_617 : Index := 0#32
  let c0_618 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1449 : Index := Scalar.indexCast v1383
  let c1152 : Index := 1152#32
  ![0, 0, v1449.toNat, 1152]
def k0_off12 (k0_t1 : Fin k0_t1_loop.trips) : Fin 4 → Nat :=
  let c0_619 : Index := 0#32
  let c0_620 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1456 : Index := Scalar.indexCast v1383
  let c1280 : Index := 1280#32
  ![0, 0, v1456.toNat, 1280]
def k0_off13 (k0_t1 : Fin k0_t1_loop.trips) : Fin 4 → Nat :=
  let c0_621 : Index := 0#32
  let c0_622 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1463 : Index := Scalar.indexCast v1383
  let c1408 : Index := 1408#32
  ![0, 0, v1463.toNat, 1408]
def k0_off14 (k0_t1 : Fin k0_t1_loop.trips) : Fin 4 → Nat :=
  let c0_623 : Index := 0#32
  let c0_624 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1470 : Index := Scalar.indexCast v1383
  let c1536 : Index := 1536#32
  ![0, 0, v1470.toNat, 1536]
def k0_off15 (k0_t1 : Fin k0_t1_loop.trips) : Fin 4 → Nat :=
  let c0_625 : Index := 0#32
  let c0_626 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1477 : Index := Scalar.indexCast v1383
  let c1664 : Index := 1664#32
  ![0, 0, v1477.toNat, 1664]
def k0_off16 (k0_t1 : Fin k0_t1_loop.trips) : Fin 4 → Nat :=
  let c0_627 : Index := 0#32
  let c0_628 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1484 : Index := Scalar.indexCast v1383
  let c1792 : Index := 1792#32
  ![0, 0, v1484.toNat, 1792]
def k0_off17 (k0_t1 : Fin k0_t1_loop.trips) : Fin 4 → Nat :=
  let c0_629 : Index := 0#32
  let c0_630 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1491 : Index := Scalar.indexCast v1383
  let c1920 : Index := 1920#32
  ![0, 0, v1491.toNat, 1920]
def k0_off18 (k0_t1 : Fin k0_t1_loop.trips) : Fin 4 → Nat :=
  let c0_631 : Index := 0#32
  let c0_632 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1498 : Index := Scalar.indexCast v1383
  let c2048 : Index := 2048#32
  ![0, 0, v1498.toNat, 2048]
def k0_off19 (k0_t1 : Fin k0_t1_loop.trips) : Fin 4 → Nat :=
  let c0_633 : Index := 0#32
  let c0_634 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1505 : Index := Scalar.indexCast v1383
  let c2176 : Index := 2176#32
  ![0, 0, v1505.toNat, 2176]
def k0_off20 (k0_t1 : Fin k0_t1_loop.trips) : Fin 4 → Nat :=
  let c0_635 : Index := 0#32
  let c0_636 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1512 : Index := Scalar.indexCast v1383
  let c2304 : Index := 2304#32
  ![0, 0, v1512.toNat, 2304]
def k0_off21 (k0_t1 : Fin k0_t1_loop.trips) : Fin 4 → Nat :=
  let c0_637 : Index := 0#32
  let c0_638 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1519 : Index := Scalar.indexCast v1383
  let c2432 : Index := 2432#32
  ![0, 0, v1519.toNat, 2432]
def k0_off22 (k0_t1 : Fin k0_t1_loop.trips) : Fin 4 → Nat :=
  let c0_639 : Index := 0#32
  let c0_640 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1526 : Index := Scalar.indexCast v1383
  let c2560 : Index := 2560#32
  ![0, 0, v1526.toNat, 2560]
def k0_off23 (k0_t1 : Fin k0_t1_loop.trips) : Fin 4 → Nat :=
  let c0_641 : Index := 0#32
  let c0_642 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1533 : Index := Scalar.indexCast v1383
  let c2688 : Index := 2688#32
  ![0, 0, v1533.toNat, 2688]
def k0_off24 (k0_t1 : Fin k0_t1_loop.trips) : Fin 4 → Nat :=
  let c0_643 : Index := 0#32
  let c0_644 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1540 : Index := Scalar.indexCast v1383
  let c2816 : Index := 2816#32
  ![0, 0, v1540.toNat, 2816]
def k0_off25 (k0_t1 : Fin k0_t1_loop.trips) : Fin 4 → Nat :=
  let c0_645 : Index := 0#32
  let c0_646 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v1547 : Index := Scalar.indexCast v1383
  let c2944 : Index := 2944#32
  ![0, 0, v1547.toNat, 2944]
def k0_off26 (k0_t1 : Fin k0_t1_loop.trips) : Fin 3 → Nat :=
  let c0_990 : Index := 0#32
  let c0_i32_1 : BitVec 32 := 0#32
  let c1_i32 : BitVec 32 := 1#32
  let arg21 : BitVec 32 := Scf.iv c0_i32_1 c1_i32 k0_t1
  let c32_i32 : BitVec 32 := 32#32
  let v1382 : BitVec 32 := Scalar.muli arg21 c32_i32
  let v1383 : BitVec 32 := v1382
  let v2174 : Index := Scalar.indexCast v1383
  let c0_991 : Index := 0#32
  ![0, v2174.toNat, 0]
def k0_mult2 (k0_t1 : Fin k0_t1_loop.trips) : BitVec 32 :=
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  v2178
def k0_off27 (k0_t1 : Fin k0_t1_loop.trips) : Fin 4 → Nat :=
  let c1_995 : Index := 1#32
  let c0_996 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2182 : Index := Scalar.indexCast v2179
  let c0_997 : Index := 0#32
  ![1, 0, v2182.toNat, 0]
def k0_off28 (k0_t1 : Fin k0_t1_loop.trips) : Fin 4 → Nat :=
  let c1_998 : Index := 1#32
  let c0_999 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2189 : Index := Scalar.indexCast v2179
  let c128_1000 : Index := 128#32
  ![1, 0, v2189.toNat, 128]
def k0_off29 (k0_t1 : Fin k0_t1_loop.trips) : Fin 4 → Nat :=
  let c1_1001 : Index := 1#32
  let c0_1002 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2196 : Index := Scalar.indexCast v2179
  let c256_1003 : Index := 256#32
  ![1, 0, v2196.toNat, 256]
def k0_off30 (k0_t1 : Fin k0_t1_loop.trips) : Fin 4 → Nat :=
  let c1_1004 : Index := 1#32
  let c0_1005 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2203 : Index := Scalar.indexCast v2179
  let c384_1006 : Index := 384#32
  ![1, 0, v2203.toNat, 384]
def k0_off31 (k0_t1 : Fin k0_t1_loop.trips) : Fin 4 → Nat :=
  let c1_1007 : Index := 1#32
  let c0_1008 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2210 : Index := Scalar.indexCast v2179
  let c512_1009 : Index := 512#32
  ![1, 0, v2210.toNat, 512]
def k0_off32 (k0_t1 : Fin k0_t1_loop.trips) : Fin 4 → Nat :=
  let c1_1010 : Index := 1#32
  let c0_1011 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2217 : Index := Scalar.indexCast v2179
  let c640_1012 : Index := 640#32
  ![1, 0, v2217.toNat, 640]
def k0_off33 (k0_t1 : Fin k0_t1_loop.trips) : Fin 4 → Nat :=
  let c1_1013 : Index := 1#32
  let c0_1014 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2224 : Index := Scalar.indexCast v2179
  let c768_1015 : Index := 768#32
  ![1, 0, v2224.toNat, 768]
def k0_off34 (k0_t1 : Fin k0_t1_loop.trips) : Fin 4 → Nat :=
  let c1_1016 : Index := 1#32
  let c0_1017 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2231 : Index := Scalar.indexCast v2179
  let c896_1018 : Index := 896#32
  ![1, 0, v2231.toNat, 896]
def k0_off35 (k0_t1 : Fin k0_t1_loop.trips) : Fin 4 → Nat :=
  let c1_1019 : Index := 1#32
  let c0_1020 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2238 : Index := Scalar.indexCast v2179
  let c1024_1021 : Index := 1024#32
  ![1, 0, v2238.toNat, 1024]
def k0_off36 (k0_t1 : Fin k0_t1_loop.trips) : Fin 4 → Nat :=
  let c1_1022 : Index := 1#32
  let c0_1023 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2245 : Index := Scalar.indexCast v2179
  let c1152_1024 : Index := 1152#32
  ![1, 0, v2245.toNat, 1152]
def k0_off37 (k0_t1 : Fin k0_t1_loop.trips) : Fin 4 → Nat :=
  let c1_1025 : Index := 1#32
  let c0_1026 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2252 : Index := Scalar.indexCast v2179
  let c1280_1027 : Index := 1280#32
  ![1, 0, v2252.toNat, 1280]
def k0_off38 (k0_t1 : Fin k0_t1_loop.trips) : Fin 4 → Nat :=
  let c1_1028 : Index := 1#32
  let c0_1029 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2259 : Index := Scalar.indexCast v2179
  let c1408_1030 : Index := 1408#32
  ![1, 0, v2259.toNat, 1408]
def k0_off39 (k0_t1 : Fin k0_t1_loop.trips) : Fin 4 → Nat :=
  let c1_1031 : Index := 1#32
  let c0_1032 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2266 : Index := Scalar.indexCast v2179
  let c1536_1033 : Index := 1536#32
  ![1, 0, v2266.toNat, 1536]
def k0_off40 (k0_t1 : Fin k0_t1_loop.trips) : Fin 4 → Nat :=
  let c1_1034 : Index := 1#32
  let c0_1035 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2273 : Index := Scalar.indexCast v2179
  let c1664_1036 : Index := 1664#32
  ![1, 0, v2273.toNat, 1664]
def k0_off41 (k0_t1 : Fin k0_t1_loop.trips) : Fin 4 → Nat :=
  let c1_1037 : Index := 1#32
  let c0_1038 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2280 : Index := Scalar.indexCast v2179
  let c1792_1039 : Index := 1792#32
  ![1, 0, v2280.toNat, 1792]
def k0_off42 (k0_t1 : Fin k0_t1_loop.trips) : Fin 4 → Nat :=
  let c1_1040 : Index := 1#32
  let c0_1041 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2287 : Index := Scalar.indexCast v2179
  let c1920_1042 : Index := 1920#32
  ![1, 0, v2287.toNat, 1920]
def k0_off43 (k0_t1 : Fin k0_t1_loop.trips) : Fin 4 → Nat :=
  let c1_1043 : Index := 1#32
  let c0_1044 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2294 : Index := Scalar.indexCast v2179
  let c2048_1045 : Index := 2048#32
  ![1, 0, v2294.toNat, 2048]
def k0_off44 (k0_t1 : Fin k0_t1_loop.trips) : Fin 4 → Nat :=
  let c1_1046 : Index := 1#32
  let c0_1047 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2301 : Index := Scalar.indexCast v2179
  let c2176_1048 : Index := 2176#32
  ![1, 0, v2301.toNat, 2176]
def k0_off45 (k0_t1 : Fin k0_t1_loop.trips) : Fin 4 → Nat :=
  let c1_1049 : Index := 1#32
  let c0_1050 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2308 : Index := Scalar.indexCast v2179
  let c2304_1051 : Index := 2304#32
  ![1, 0, v2308.toNat, 2304]
def k0_off46 (k0_t1 : Fin k0_t1_loop.trips) : Fin 4 → Nat :=
  let c1_1052 : Index := 1#32
  let c0_1053 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2315 : Index := Scalar.indexCast v2179
  let c2432_1054 : Index := 2432#32
  ![1, 0, v2315.toNat, 2432]
def k0_off47 (k0_t1 : Fin k0_t1_loop.trips) : Fin 4 → Nat :=
  let c1_1055 : Index := 1#32
  let c0_1056 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2322 : Index := Scalar.indexCast v2179
  let c2560_1057 : Index := 2560#32
  ![1, 0, v2322.toNat, 2560]
def k0_off48 (k0_t1 : Fin k0_t1_loop.trips) : Fin 4 → Nat :=
  let c1_1058 : Index := 1#32
  let c0_1059 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2329 : Index := Scalar.indexCast v2179
  let c2688_1060 : Index := 2688#32
  ![1, 0, v2329.toNat, 2688]
def k0_off49 (k0_t1 : Fin k0_t1_loop.trips) : Fin 4 → Nat :=
  let c1_1061 : Index := 1#32
  let c0_1062 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2336 : Index := Scalar.indexCast v2179
  let c2816_1063 : Index := 2816#32
  ![1, 0, v2336.toNat, 2816]
def k0_off50 (k0_t1 : Fin k0_t1_loop.trips) : Fin 4 → Nat :=
  let c1_1064 : Index := 1#32
  let c0_1065 : Index := 0#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2343 : Index := Scalar.indexCast v2179
  let c2944_1066 : Index := 2944#32
  ![1, 0, v2343.toNat, 2944]
def k0_off51 (k0_t1 : Fin k0_t1_loop.trips) : Fin 3 → Nat :=
  let c1_1410 : Index := 1#32
  let c0_i32_1 : BitVec 32 := 0#32
  let c1_i32 : BitVec 32 := 1#32
  let arg21 : BitVec 32 := Scf.iv c0_i32_1 c1_i32 k0_t1
  let c32_i32_992 : BitVec 32 := 32#32
  let v2178 : BitVec 32 := Scalar.muli arg21 c32_i32_992
  let v2179 : BitVec 32 := v2178
  let v2970 : Index := Scalar.indexCast v2179
  let c0_1411 : Index := 0#32
  ![1, v2970.toNat, 0]
def k0_off52 (i : grid0.Coords) (c0_i32_3 : BitVec 32) : Fin 1 → Nat :=
  let arg0 : BitVec 32 := BitVec.ofNat 32 (i 0).val
  let v4 : BitVec 32 := Scalar.addi c0_i32_3 arg0
  let v5 : Index := Scalar.indexCast v4
  ![v5.toNat]
def k0_off53 (i : grid0.Coords) : Fin 1 → Nat :=
  let arg0 : BitVec 32 := BitVec.ofNat 32 (i 0).val
  let v90 : Index := Scalar.indexCast arg0
  ![v90.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x1x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x1x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S64x3072 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x16x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x1x512x3072 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x1x1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "inv_d" => some ((1 / 3072 : ℝ) : EReal)
  | _ => none
-- ==== ReferenceIdeal.lean ====
abbrev S16x6144x3072 : Shape := ⟨3, ![16, 6144, 3072]⟩
abbrev S16x3072 : Shape := ⟨2, ![16, 3072]⟩
abbrev S3072x64 : Shape := ⟨2, ![3072, 64]⟩
abbrev S64 : Shape := ⟨1, ![64]⟩
abbrev S8 : Shape := ⟨1, ![8]⟩
abbrev S8x16x192x128 : Shape := ⟨4, ![8, 16, 192, 128]⟩
abbrev S16 : Shape := ⟨1, ![16]⟩
abbrev S2x8x6144x3072 : Shape := ⟨4, ![2, 8, 6144, 3072]⟩
abbrev S2x8x1x6144 : Shape := ⟨4, ![2, 8, 1, 6144]⟩
abbrev S16x6144 : Shape := ⟨2, ![16, 6144]⟩
abbrev S16x6144x1 : Shape := ⟨3, ![16, 6144, 1]⟩
abbrev S16x1x3072 : Shape := ⟨3, ![16, 1, 3072]⟩
abbrev S16x1x1 : Shape := ⟨3, ![16, 1, 1]⟩
abbrev S16x6144x64 : Shape := ⟨3, ![16, 6144, 64]⟩
abbrev S1x1x64 : Shape := ⟨3, ![1, 1, 64]⟩
abbrev S8x6144x64 : Shape := ⟨3, ![8, 6144, 64]⟩
abbrev S8x1x1 : Shape := ⟨3, ![8, 1, 1]⟩
abbrev S8x96x64x2x2x16 : Shape := ⟨6, ![8, 96, 64, 2, 2, 16]⟩
abbrev S8x16x96x2x64x2 : Shape := ⟨6, ![8, 16, 96, 2, 64, 2]⟩
abbrev S8x1x1x1 : Shape := ⟨4, ![8, 1, 1, 1]⟩

abbrev nBuf : Space → Nat
  | .hbm => 15
  | .vmem => 15
  | .smem => 0
  | _ => 0

abbrev bufTy : (tb : Table) → Fin (tcTables nBuf tb) → BufTy
  | .hbm, ⟨0, _⟩ => ⟨S16x6144x3072, .bf16⟩
  | .hbm, ⟨1, _⟩ => ⟨S16x3072, .f32⟩
  | .hbm, ⟨2, _⟩ => ⟨S16x3072, .f32⟩
  | .hbm, ⟨3, _⟩ => ⟨S3072x64, .fp8e4m3⟩
  | .hbm, ⟨4, _⟩ => ⟨S64, .f32⟩
  | .hbm, ⟨5, _⟩ => ⟨S64, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S8x16x192x128, .f32⟩
  | .hbm, ⟨10, _⟩ => ⟨S16, .f32⟩
  | .hbm, ⟨11, _⟩ => ⟨S8x16x192x128, .f32⟩
  | .hbm, ⟨12, _⟩ => ⟨S8x16x192x128, .bf16⟩
  | .hbm, ⟨13, _⟩ => ⟨S2x8x6144x3072, .fp8e4m3⟩
  | .hbm, ⟨14, _⟩ => ⟨S2x8x1x6144, .f32⟩
  | .local _ .vmem, ⟨0, _⟩ => ⟨S16x6144x3072, .bf16⟩
  | .local _ .vmem, ⟨1, _⟩ => ⟨S16x3072, .f32⟩
  | .local _ .vmem, ⟨2, _⟩ => ⟨S16x3072, .f32⟩
  | .local _ .vmem, ⟨3, _⟩ => ⟨S3072x64, .fp8e4m3⟩
  | .local _ .vmem, ⟨4, _⟩ => ⟨S64, .f32⟩
  | .local _ .vmem, ⟨5, _⟩ => ⟨S64, .f32⟩
  | .local _ .vmem, ⟨6, _⟩ => ⟨S8, .f32⟩
  | .local _ .vmem, ⟨7, _⟩ => ⟨S8, .f32⟩
  | .local _ .vmem, ⟨8, _⟩ => ⟨S8, .f32⟩
  | .local _ .vmem, ⟨9, _⟩ => ⟨S8x16x192x128, .f32⟩
  | .local _ .vmem, ⟨10, _⟩ => ⟨S16, .f32⟩
  | .local _ .vmem, ⟨11, _⟩ => ⟨S8x16x192x128, .f32⟩
  | .local _ .vmem, ⟨12, _⟩ => ⟨S8x16x192x128, .bf16⟩
  | .local _ .vmem, ⟨13, _⟩ => ⟨S2x8x6144x3072, .fp8e4m3⟩
  | .local _ .vmem, ⟨14, _⟩ => ⟨S2x8x1x6144, .f32⟩
  | _, _ => ⟨S16x6144x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S16x6144x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x16x192x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x16x192x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x16x192x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x8x6144x3072 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x8x1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.RowMath.lean ====
/-
  The mathematics of one row, over the extended reals and free of any program: the two spellings of a row's variance,
  of the modulated and scaled row, and of its greatest magnitude.  A row is a function on its 3072 columns; the kernel
  goes through the columns as 24 tiles of 128 lanes.
-/
module

public import Idealize.ShloMosaic.PureOps.Ideal
public import Mathlib.Algebra.BigOperators.Fin
public import Mathlib.Data.EReal.Operations
public import Mathlib.Algebra.BigOperators.Field
public import Mathlib.Tactic.Ring
public import Mathlib.Tactic.FieldSimp
public import Mathlib.Tactic.Positivity

@[expose] public section

set_option maxRecDepth 16384

noncomputable section

namespace Cert.Proof.RowMath

open Idealize.ShloMosaic

/-- The column of a row that tile `k` keeps in lane `l`. -/
abbrev col (k : Fin 24) (l : Fin 128) : Fin 3072 := ⟨k.val * 128 + l.val, by omega⟩

/-- The columns of a row are the lanes of its 24 tiles. -/
def colEquiv : Fin 128 × Fin 24 ≃ Fin 3072 where
  toFun p := col p.2 p.1
  invFun d := (⟨d.val % 128, by omega⟩, ⟨d.val / 128, by omega⟩)
  left_inv p := by
    obtain ⟨l, k⟩ := p
    apply Prod.ext <;> apply Fin.ext <;> simp only <;> omega
  right_inv d := by apply Fin.ext; simp only; omega

/-- Summing each lane over the tiles and then over the lanes is summing the row. -/
theorem sum_tiles (f : Fin 3072 → EReal) : ∑ l : Fin 128, ∑ k : Fin 24, f (col k l) = ∑ d, f d := by
  rw [← Fintype.sum_prod_type' (fun l k => f (col k l))]
  exact Fintype.sum_equiv colEquiv _ _ fun _ => rfl

/-- One 3072nd, as an extended real. -/
abbrev c : EReal := ((1 / 3072 : ℝ) : EReal)

/-- The mean of a row. -/
def mean (X : Fin 3072 → EReal) : EReal := (∑ d, X d) * c

/-- The variance of a row, as the mean of the squared distances from the mean. -/
def var (X : Fin 3072 → EReal) : EReal := (∑ d, (X d - mean X) * (X d - mean X)) * c

/-- The variance of a row, as the mean square less the squared mean, cut off at zero. -/
def varK (X : Fin 3072 → EReal) : EReal := max ((∑ d, X d * X d) * c - mean X * mean X) 0

/-- A finite sum of reals, taken among the extended reals, is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- For a row of finite numbers the two variances are one number. -/
theorem varK_eq_var (X : Fin 3072 → EReal) (h : ∀ d, ∃ r : ℝ, X d = (r : EReal)) : varK X = var X := by
  choose r hr using h
  obtain rfl : X = fun d => (r d : EReal) := funext hr
  have hm : mean (fun d => (r d : EReal)) = (((∑ d, r d) * (1 / 3072) : ℝ) : EReal) := by
    rw [mean, ← coe_sum, ← EReal.coe_mul]
  have h1 : (∑ d, r d * r d) * (1 / 3072) - (∑ d, r d) * (1 / 3072) * ((∑ d, r d) * (1 / 3072))
      = (∑ d, (r d - (∑ d, r d) * (1 / 3072)) * (r d - (∑ d, r d) * (1 / 3072))) * (1 / 3072) := by
    generalize hS : ∑ d, r d = S
    have : ∀ d, (r d - S * (1 / 3072)) * (r d - S * (1 / 3072))
        = r d * r d - 2 * (S * (1 / 3072)) * r d + S * (1 / 3072) * (S * (1 / 3072)) := fun d => by ring
    simp only [this, Finset.sum_add_distrib, Finset.sum_sub_distrib, ← Finset.mul_sum, hS, Finset.sum_const,
      Finset.card_univ, Fintype.card_fin, nsmul_eq_mul]
    push_cast
    ring
  have h2 : (0 : ℝ) ≤ (∑ d, (r d - (∑ d, r d) * (1 / 3072)) * (r d - (∑ d, r d) * (1 / 3072))) * (1 / 3072) :=
    mul_nonneg (Finset.sum_nonneg fun d _ => mul_self_nonneg _) (by norm_num)
  rw [varK, var, hm]
  simp only [← EReal.coe_mul, ← EReal.coe_sub, ← coe_sum]
  rw [h1, max_eq_left]
  exact_mod_cast h2

/-- A column of the normalized, modulated row. -/
def modul (X : Fin 3072 → EReal) (eps sc sh : EReal) (d : Fin 3072) : EReal :=
  (X d - mean X) * Ideal.rsqrt (var X + eps) * (1 + sc) + sh

/-- The same column as the kernel scales it: gain and offset already multiplied by the inverse scale. -/
def modulK (X : Fin 3072 → EReal) (eps a b : EReal) (d : Fin 3072) : EReal :=
  (X d - mean X) * Ideal.rsqrt (varK X + eps) * a + b

/-- Scaling gain and offset by a positive real inverse is scaling the modulated row. -/
theorem modulK_eq (X : Fin 3072 → EReal) (h : ∀ d, ∃ r : ℝ, X d = (r : EReal)) (eps sc sh : EReal) (i : ℝ) (hi : 0 < i)
    (d : Fin 3072) : modulK X eps ((1 + sc) * (i : EReal)) (sh * (i : EReal)) d = modul X eps sc sh d * (i : EReal) := by
  rw [modulK, modul, varK_eq_var X h, ← mul_assoc,
    ← EReal.right_distrib_of_nonneg_of_ne_top (by exact_mod_cast hi.le) (EReal.coe_ne_top i)]

/-- The magnitude of an extended real. -/
abbrev mag (x : EReal) : EReal := max x (-x)

/-- A magnitude is not negative. -/
theorem mag_nonneg (x : EReal) : 0 ≤ mag x := by
  rcases le_total 0 x with h | h
  · exact le_max_of_le_left h
  · exact le_max_of_le_right (by simpa using EReal.neg_le_neg_iff.mpr h)

/-- Multiplying by a positive real passes through a maximum. -/
theorem max_mul (x y : EReal) (i : ℝ) (hi : 0 < i) : max x y * (i : EReal) = max (x * i) (y * i) := by
  have hm : Monotone fun z : EReal => z * (i : EReal) := fun a b hab =>
    mul_le_mul_of_nonneg_right hab (by exact_mod_cast hi.le)
  exact hm.map_max

/-- The magnitude of a multiple by a positive real. -/
theorem mag_mul (x : EReal) (i : ℝ) (hi : 0 < i) : mag (x * i) = mag x * i := by
  rw [mag, mag, max_mul _ _ i hi, EReal.neg_mul]

/-- A positive real times its inverse leaves every extended real alone. -/
theorem mul_inv_mul (x : EReal) (s : ℝ) (hs : 0 < s) : x * ((1 / s : ℝ) : EReal) * (s : EReal) = x := by
  rw [mul_assoc, ← EReal.coe_mul, one_div_mul_cancel hs.ne']
  simp

/-- The maximum of the scaled magnitudes over lanes of tile maxima, scaled back, is the maximum of the magnitudes over the
    row. The kernel's tile maxima start from zero and its lane maximum from `bot`; the row's maximum starts from `bot`. -/
theorem max_tiles (H : Fin 3072 → EReal) (s : ℝ) (hs : 0 < s) :
    (Finset.univ : Finset (Fin 128)).fold max ⊥ (fun l =>
        (Finset.univ : Finset (Fin 24)).fold max 0 fun k => mag (H (col k l) * ((1 / s : ℝ) : EReal))) * (s : EReal)
      = (Finset.univ : Finset (Fin 3072)).fold max ⊥ fun d => mag (H d) := by
  have hi : (0 : ℝ) < 1 / s := by positivity
  have hm : Monotone fun z : EReal => z * (s : EReal) := fun a b hab =>
    mul_le_mul_of_nonneg_right hab (by exact_mod_cast hs.le)
  apply le_antisymm
  · -- every entry on the left is at most the maximum on the right
    have key : ∀ z : EReal, 0 ≤ z → (∀ d, mag (H d) ≤ z) →
        (Finset.univ : Finset (Fin 128)).fold max ⊥ (fun l =>
          (Finset.univ : Finset (Fin 24)).fold max 0 fun k => mag (H (col k l) * ((1 / s : ℝ) : EReal))) * (s : EReal) ≤ z := by
      intro z hz hd
      have : (Finset.univ : Finset (Fin 128)).fold max ⊥ (fun l =>
          (Finset.univ : Finset (Fin 24)).fold max 0 fun k => mag (H (col k l) * ((1 / s : ℝ) : EReal)))
            ≤ z * ((1 / s : ℝ) : EReal) := by
        rw [Finset.fold_max_le]
        refine ⟨bot_le, fun l _ => ?_⟩
        rw [Finset.fold_max_le]
        refine ⟨mul_nonneg hz (by exact_mod_cast hi.le), fun k _ => ?_⟩
        rw [mag_mul _ _ hi]
        exact mul_le_mul_of_nonneg_right (hd _) (by exact_mod_cast hi.le)
      calc _ ≤ z * ((1 / s : ℝ) : EReal) * (s : EReal) := hm this
        _ = z := mul_inv_mul z s hs
    refine key _ ?_ ?_
    · rw [Finset.le_fold_max]
      exact .inr ⟨0, Finset.mem_univ _, mag_nonneg _⟩
    · intro d
      rw [Finset.le_fold_max]
      exact .inr ⟨d, Finset.mem_univ _, le_rfl⟩
  · rw [Finset.fold_max_le]
    refine ⟨bot_le, fun d _ => ?_⟩
    calc mag (H d) = mag (H d) * ((1 / s : ℝ) : EReal) * (s : EReal) := (mul_inv_mul _ s hs).symm
      _ ≤ _ := hm ?_
    rw [Finset.le_fold_max]
    refine .inr ⟨⟨d.val % 128, by omega⟩, Finset.mem_univ _, ?_⟩
    rw [Finset.le_fold_max]
    refine .inr ⟨⟨d.val / 128, by omega⟩, Finset.mem_univ _, ?_⟩
    rw [mag_mul _ _ hi]
    have : col ⟨d.val / 128, by omega⟩ ⟨d.val % 128, by omega⟩ = d := by
      apply Fin.ext; simp only [col]; omega
    rw [this]

end Cert.Proof.RowMath

end
-- ==== Proof.Tiles.lean ====
/-
  One group of 32 rows of one half of a block, as the kernel computes it: 24 tiles of 32 rows by 128 lanes. The named
  vector functions below are the kernel's own operations; each is then read at an index, over the extended reals.
-/
module

public import proofs.«01_k».proof.Proof.Gen.KernelIdeal.Skeleton
public import proofs.«01_k».proof.Proof.RowMath
public import Idealize.ShloMosaic.Lib.Pipeline.Value
public import Idealize.ShloMosaic.Lib.Pointwise

@[expose] public section

set_option maxRecDepth 16384

noncomputable section

namespace Cert.Proof.Tiles

open Cert.KernelIdeal Cert.KernelIdeal.Gen Idealize.ShloMosaic Idealize.ShloMosaic.TcCoe Idealize.ShloMosaic.Pipeline

variable {F : FTy → Type} [FloatOps F] [Named F]

/-- A tile of the input, widened. -/
def xt (x : Vec F S1x1x32x128 .bf16) : FVec F S32x128 .f32 :=
  extf .f32 (shapeCast S32x128 x shapeCasts_S1x1x32x128_S32x128) bitsLt_bf16_f32

/-- The running sum of the tiles. -/
def sum24 (x0 x1 x2 x3 x4 x5 x6 x7 x8 x9 x10 x11 x12 x13 x14 x15 x16 x17 x18 x19 x20 x21 x22 x23 : Vec F S1x1x32x128 .bf16) : FVec F S32x128 .f32 :=
  addf (addf (addf (addf (addf (addf (addf (addf (addf (addf (addf (addf (addf (addf (addf (addf (addf (addf (addf (addf (addf (addf (addf (addf (broadcast S32x128 (Scalar.ofBits .f32 0x00000000#32)) (xt x0)) (xt x1)) (xt x2)) (xt x3)) (xt x4)) (xt x5)) (xt x6)) (xt x7)) (xt x8)) (xt x9)) (xt x10)) (xt x11)) (xt x12)) (xt x13)) (xt x14)) (xt x15)) (xt x16)) (xt x17)) (xt x18)) (xt x19)) (xt x20)) (xt x21)) (xt x22)) (xt x23)

/-- The running sum of the tiles' squares. -/
def sq24 (x0 x1 x2 x3 x4 x5 x6 x7 x8 x9 x10 x11 x12 x13 x14 x15 x16 x17 x18 x19 x20 x21 x22 x23 : Vec F S1x1x32x128 .bf16) : FVec F S32x128 .f32 :=
  addf (addf (addf (addf (addf (addf (addf (addf (addf (addf (addf (addf (addf (addf (addf (addf (addf (addf (addf (addf (addf (addf (addf (addf (broadcast S32x128 (Scalar.ofBits .f32 0x00000000#32)) (mulf (xt x0) (xt x0))) (mulf (xt x1) (xt x1))) (mulf (xt x2) (xt x2))) (mulf (xt x3) (xt x3))) (mulf (xt x4) (xt x4))) (mulf (xt x5) (xt x5))) (mulf (xt x6) (xt x6))) (mulf (xt x7) (xt x7))) (mulf (xt x8) (xt x8))) (mulf (xt x9) (xt x9))) (mulf (xt x10) (xt x10))) (mulf (xt x11) (xt x11))) (mulf (xt x12) (xt x12))) (mulf (xt x13) (xt x13))) (mulf (xt x14) (xt x14))) (mulf (xt x15) (xt x15))) (mulf (xt x16) (xt x16))) (mulf (xt x17) (xt x17))) (mulf (xt x18) (xt x18))) (mulf (xt x19) (xt x19))) (mulf (xt x20) (xt x20))) (mulf (xt x21) (xt x21))) (mulf (xt x22) (xt x22))) (mulf (xt x23) (xt x23))

/-- The sum over the lanes, times the named constant one 3072nd. -/
def laneMean (v : FVec F S32x128 .f32) : FVec F S32x1 .f32 :=
  mulf (shapeCast S32x1 (multiReduction .add [1] S32 v 0x00000000#32 reduces_S32x128_S32 (.inl rfl) rfl)
    shapeCasts_S32_S32x1) (broadcast S32x1 (Named.named κ "inv_d" 0x39AAAAAB#32))

/-- A column repeated along the lanes. -/
def wide (v : FVec F S32x1 .f32) : FVec F S32x128 .f32 :=
  broadcastTo S32x128 (shapeCast S32x1 v shapeCasts_S32x1_S32x1) broadcasts_S32x1_S32x128

/-- The rows' means, repeated along the lanes. -/
def muT (s : FVec F S32x128 .f32) : FVec F S32x128 .f32 := wide (laneMean s)

/-- The rows' inverse standard deviations, repeated along the lanes. -/
def rstdT (s q : FVec F S32x128 .f32) : FVec F S32x128 .f32 :=
  wide (rsqrt (addf (maximumf (subf (laneMean q) (mulf (laneMean s) (laneMean s)))
    (broadcast S32x1 (Scalar.ofBits .f32 0x00000000#32))) (broadcast S32x1 (Scalar.ofBits .f32 0x358637BD#32))))

/-- Eight rows repeated four times. -/
def rep4 (a : Vec F S1x8x128 .f32) : FVec F S32x128 .f32 :=
  concatenate S32x128 0 [⟨S8x128, shapeCast S8x128 a shapeCasts_S1x8x128_S8x128⟩, ⟨S8x128, shapeCast S8x128 a shapeCasts_S1x8x128_S8x128⟩, ⟨S8x128, shapeCast S8x128 a shapeCasts_S1x8x128_S8x128⟩, ⟨S8x128, shapeCast S8x128 a shapeCasts_S1x8x128_S8x128⟩] concatenates_S8x128_S8x128_S8x128_S8x128_S32x128_d0

/-- A tile normalized, and then multiplied and shifted lane by lane. -/
def qT (x : Vec F S1x1x32x128 .bf16) (mu rs : FVec F S32x128 .f32) (a b : Vec F S1x8x128 .f32) : FVec F S32x128 .f32 :=
  addf (mulf (mulf (subf (xt x) mu) rs) (rep4 a)) (rep4 b)

/-- A tile clipped to the range of the codes. -/
def clipT (q : FVec F S32x128 .f32) : Vec F S1x1x32x128 .fp8e4m3 :=
  shapeCast S1x1x32x128 (truncf .fp8e4m3 (minimumf (broadcast S32x128 (Scalar.ofBits .f32 0x43E00000#32))
    (maximumf (broadcast S32x128 (Scalar.ofBits .f32 0xC3E00000#32)) q)) bitsLt_fp8e4m3_f32) shapeCasts_S32x128_S1x1x32x128

/-- The running maximum of the magnitudes of 24 tiles, from zero. -/
def amax24 (x0 x1 x2 x3 x4 x5 x6 x7 x8 x9 x10 x11 x12 x13 x14 x15 x16 x17 x18 x19 x20 x21 x22 x23 : FVec F S32x128 .f32) : FVec F S1x32x128 .f32 :=
  shapeCast S1x32x128 (maximumf (maximumf (maximumf (maximumf (maximumf (maximumf (maximumf (maximumf (maximumf (maximumf (maximumf (maximumf (maximumf (maximumf (maximumf (maximumf (maximumf (maximumf (maximumf (maximumf (maximumf (maximumf (maximumf (maximumf (broadcast S32x128 (Scalar.ofBits .f32 0x00000000#32)) (absf x0)) (absf x1)) (absf x2)) (absf x3)) (absf x4)) (absf x5)) (absf x6)) (absf x7)) (absf x8)) (absf x9)) (absf x10)) (absf x11)) (absf x12)) (absf x13)) (absf x14)) (absf x15)) (absf x16)) (absf x17)) (absf x18)) (absf x19)) (absf x20)) (absf x21)) (absf x22)) (absf x23)) shapeCasts_S32x128_S1x32x128

/-! ## Read at an index, over the extended reals -/

/-- Twenty-four numbers added one after the other, from zero. -/
theorem sum_chain (f : Fin 24 → EReal) : 0 + f 0 + f 1 + f 2 + f 3 + f 4 + f 5 + f 6 + f 7 + f 8 + f 9 + f 10 + f 11 + f 12 + f 13 + f 14 + f 15 + f 16 + f 17 + f 18 + f 19 + f 20 + f 21 + f 22 + f 23 = ∑ k, f k := by
  simp only [Fin.sum_univ_castSucc, Fin.sum_univ_zero]
  rfl

/-- A maximum over `n + 1` numbers is the maximum over the first `n` and then the last. -/
theorem fold_castSucc (n : ℕ) (b : EReal) (f : Fin (n + 1) → EReal) :
    (Finset.univ : Finset (Fin (n + 1))).fold max b f
      = max ((Finset.univ : Finset (Fin n)).fold max b fun k => f k.castSucc) (f (Fin.last n)) := by
  rw [Fin.univ_castSuccEmb, Finset.fold_cons, Finset.fold_map, max_comm]
  rfl

/-- The maximum of twenty-four numbers taken one after the other, from `b`. -/
theorem max_chain (b : EReal) (f : Fin 24 → EReal) :
    max (max (max (max (max (max (max (max (max (max (max (max (max (max (max (max (max (max (max (max (max (max (max (max b (f 0)) (f 1)) (f 2)) (f 3)) (f 4)) (f 5)) (f 6)) (f 7)) (f 8)) (f 9)) (f 10)) (f 11)) (f 12)) (f 13)) (f 14)) (f 15)) (f 16)) (f 17)) (f 18)) (f 19)) (f 20)) (f 21)) (f 22)) (f 23) = (Finset.univ : Finset (Fin 24)).fold max b f := by
  simp only [fold_castSucc]
  rfl

open Cert.Proof.RowMath

/-- A widened tile is the tile. -/
theorem xt_apply (x : Vec Ideal S1x1x32x128 .bf16) (r : Fin 32) (l : Fin 128) : xt x (ix2 r l) = x (ix4 0 0 r l) := by
  unfold xt
  pointwise

/-- The sum of 24 tiles at an index. -/
theorem sum24_apply (x : Fin 24 → Vec Ideal S1x1x32x128 .bf16) (r : Fin 32) (l : Fin 128) :
    sum24 (x 0) (x 1) (x 2) (x 3) (x 4) (x 5) (x 6) (x 7) (x 8) (x 9) (x 10) (x 11) (x 12) (x 13) (x 14) (x 15) (x 16) (x 17) (x 18) (x 19) (x 20) (x 21) (x 22) (x 23) (ix2 r l) = ∑ k, x k (ix4 0 0 r l) := by
  rw [← sum_chain]
  simp only [← xt_apply]
  unfold sum24
  pointwise

/-- The lane sum over 3072 at an index. -/
theorem laneMean_apply (v : FVec Ideal S32x128 .f32) (r : Fin 32) (u : Fin 1) : laneMean v (ix2 r u) = (∑ l, v (ix2 r l)) * c := by
  unfold laneMean
  pointwise
  rfl

/-- A column spread over the lanes at an index. -/
theorem wide_apply (v : FVec Ideal S32x1 .f32) (r : Fin 32) (l : Fin 128) : wide v (ix2 r l) = v (ix2 r 0) := by
  unfold wide
  pointwise

/-- Eight rows repeated four times at an index. -/
theorem rep4_apply (a : Vec Ideal S1x8x128 .f32) (r : Fin 32) (l : Fin 128) : rep4 a (ix2 r l) = a (ix3 0 ⟨r.val % 8, by omega⟩ l) := by
  unfold rep4
  pointwise
  split_ifs <;> congr 2 <;> apply Fin.ext <;> simp only <;> omega

/-- The scaled, modulated tile at an index. -/
theorem qT_apply (x : Vec Ideal S1x1x32x128 .bf16) (mu rs : FVec Ideal S32x128 .f32) (a b : Vec Ideal S1x8x128 .f32) (r : Fin 32) (l : Fin 128) :
    qT x mu rs a b (ix2 r l) = (x (ix4 0 0 r l) - mu (ix2 r l)) * rs (ix2 r l) * a (ix3 0 ⟨r.val % 8, by omega⟩ l) + b (ix3 0 ⟨r.val % 8, by omega⟩ l) := by
  rw [← rep4_apply a, ← rep4_apply b, ← xt_apply x]
  rfl

/-- The clipped tile at an index. -/
theorem clipT_apply (q : FVec Ideal S32x128 .f32) (u v : Fin 1) (r : Fin 32) (l : Fin 128) :
    clipT q (ix4 u v r l) = min (Ideal.ofBits .f32 0x43E00000#32) (max (Ideal.ofBits .f32 0xC3E00000#32) (q (ix2 r l))) := by
  unfold clipT
  pointwise

/-- The running maximum of 24 tiles at an index. -/
theorem amax24_apply (q : Fin 24 → FVec Ideal S32x128 .f32) (u : Fin 1) (r : Fin 32) (l : Fin 128) :
    amax24 (q 0) (q 1) (q 2) (q 3) (q 4) (q 5) (q 6) (q 7) (q 8) (q 9) (q 10) (q 11) (q 12) (q 13) (q 14) (q 15) (q 16) (q 17) (q 18) (q 19) (q 20) (q 21) (q 22) (q 23) (ix3 u r l) = (Finset.univ : Finset (Fin 24)).fold max 0 fun k => mag (q k (ix2 r l)) := by
  rw [← max_chain]
  unfold amax24
  pointwise
  rfl

/-- The inverse standard deviation of a row, spread over the lanes. -/
theorem rstdT_apply (s q : FVec Ideal S32x128 .f32) (r : Fin 32) (l : Fin 128) :
    rstdT s q (ix2 r l) = Ideal.rsqrt (max (laneMean q (ix2 r 0) - laneMean s (ix2 r 0) * laneMean s (ix2 r 0)) 0 + Ideal.ofBits .f32 0x358637BD#32) := by
  unfold rstdT
  rw [wide_apply]
  pointwise

/-- The sum of the squares of 24 tiles at an index. -/
theorem sq24_apply (x : Fin 24 → Vec Ideal S1x1x32x128 .bf16) (r : Fin 32) (l : Fin 128) :
    sq24 (x 0) (x 1) (x 2) (x 3) (x 4) (x 5) (x 6) (x 7) (x 8) (x 9) (x 10) (x 11) (x 12) (x 13) (x 14) (x 15) (x 16) (x 17) (x 18) (x 19) (x 20) (x 21) (x 22) (x 23) (ix2 r l) = ∑ k, x k (ix4 0 0 r l) * x k (ix4 0 0 r l) := by
  rw [← sum_chain]
  simp only [← xt_apply]
  unfold sq24
  pointwise

/-- The rows' means, when the tiles hold the row `X`. -/
theorem muT_row (x : Fin 24 → Vec Ideal S1x1x32x128 .bf16) (r : Fin 32) (X : Fin 3072 → EReal)
    (hx : ∀ k l, x k (ix4 0 0 r l) = X (col k l)) (l : Fin 128) :
    muT (sum24 (x 0) (x 1) (x 2) (x 3) (x 4) (x 5) (x 6) (x 7) (x 8) (x 9) (x 10) (x 11) (x 12) (x 13) (x 14) (x 15) (x 16) (x 17) (x 18) (x 19) (x 20) (x 21) (x 22) (x 23)) (ix2 r l) = mean X := by
  rw [muT, wide_apply, laneMean_apply]
  simp only [sum24_apply, hx]
  rw [sum_tiles X]; rfl

/-- The rows' inverse standard deviations, when the tiles hold the row `X`. -/
theorem rstdT_row (x : Fin 24 → Vec Ideal S1x1x32x128 .bf16) (r : Fin 32) (X : Fin 3072 → EReal)
    (hx : ∀ k l, x k (ix4 0 0 r l) = X (col k l)) (l : Fin 128) :
    rstdT (sum24 (x 0) (x 1) (x 2) (x 3) (x 4) (x 5) (x 6) (x 7) (x 8) (x 9) (x 10) (x 11) (x 12) (x 13) (x 14) (x 15) (x 16) (x 17) (x 18) (x 19) (x 20) (x 21) (x 22) (x 23)) (sq24 (x 0) (x 1) (x 2) (x 3) (x 4) (x 5) (x 6) (x 7) (x 8) (x 9) (x 10) (x 11) (x 12) (x 13) (x 14) (x 15) (x 16) (x 17) (x 18) (x 19) (x 20) (x 21) (x 22) (x 23)) (ix2 r l) = Ideal.rsqrt (varK X + Ideal.ofBits .f32 0x358637BD#32) := by
  rw [rstdT_apply, laneMean_apply, laneMean_apply]
  simp only [sum24_apply, sq24_apply, hx]
  rw [sum_tiles X, sum_tiles fun d => X d * X d]; rfl

end Cert.Proof.Tiles

end
-- ==== Proof.Block.lean ====
/-
  A block of the kernel: 2 halves of 512 rows by 3072 columns, with the 8-row gain and offset it holds per half. What
  the kernel's tiles hold of it, and the codes and magnitudes of the block as functions of an index.
-/
module

public import proofs.«01_k».proof.Proof.Tiles
public import Idealize.ShloMosaic.Lib.Pipeline.ValueKit

@[expose] public section

set_option maxRecDepth 16384

noncomputable section

namespace Cert.Proof.Block

open Cert.KernelIdeal Cert.KernelIdeal.Gen Idealize.ShloMosaic Idealize.ShloMosaic.TcCoe
open Cert.Proof.RowMath Cert.Proof.Tiles

/-! ## Lists of stores that draw one function -/

/-- Every store of the list writes the values of the one function `f` where it stores. -/
def Draws {S : Shape} {e : EltTy} {Val : EltTy → Type} (L : List (View.Piece Val S e)) (f : S.Idx → Val e) : Prop :=
  ∀ p ∈ L, ∀ x, p.2 x = f (p.1.emb x)

/-- No store draws anything. -/
theorem Draws.nil {S : Shape} {e : EltTy} {Val : EltTy → Type} (f : S.Idx → Val e) : Draws (Val := Val) [] f :=
  fun _ h => absurd h List.not_mem_nil

/-- One more store. -/
theorem Draws.cons {S : Shape} {e : EltTy} {Val : EltTy → Type} {p : View.Piece Val S e} {L : List (View.Piece Val S e)}
    {f : S.Idx → Val e} (hp : ∀ x, p.2 x = f (p.1.emb x)) (hL : Draws L f) : Draws (p :: L) f := fun q hq => by
  rcases List.mem_cons.mp hq with rfl | hq
  · exact hp
  · exact hL q hq

/-- Two lists after each other. -/
theorem Draws.append {S : Shape} {e : EltTy} {Val : EltTy → Type} {L L' : List (View.Piece Val S e)}
    {f : S.Idx → Val e} (h : Draws L f) (h' : Draws L' f) : Draws (L ++ L') f := fun q hq => by
  rcases List.mem_append.mp hq with hq | hq
  · exact h q hq
  · exact h' q hq

/-- Where a store has reached, the contents are the function drawn. -/
theorem Draws.canon {S : Shape} {e : EltTy} {Val : EltTy → Type} [∀ e, Nonempty (Val e)] {L : List (View.Piece Val S e)}
    {f : S.Idx → Val e} (h : Draws L f) (y : S.Idx) (hy : ∃ p ∈ L, y ∈ p.1.set) : View.canon L y = f y :=
  View.canon_eq_of_allAt L y (f y) hy fun p hp x hx => by rw [h p hp x, hx]

/-! ## Tiles of a block -/

section Words
variable {F : FTy → Type} [FloatOps F] [Named F]

/-- A load depends on its offsets by their values. -/
theorem readAt_off {s : Shape} {e : EltTy} {sp : Space} (v : View sig .tc sp s e) {off off' size : Fin s.rank → ℕ} (h : off = off')
    (i : ∀ a, off a + size a ≤ s.size a) (i' : ∀ a, off' a + size a ≤ s.size a) (X : BufTy.Contents (Elt F) v.ty) :
    View.readAt (Elt F) v (Rect.unit (s := s) off size i).toLoadRect X = View.readAt (Elt F) v (Rect.unit (s := s) off' size i').toLoadRect X := by
  subst h; rfl

/-- The loop makes sixteen trips at the most. -/
theorem trip_lt (k : Fin k0_t1_loop.trips) : k.val < 16 := Nat.lt_of_lt_of_le k.isLt k0_t1_abs.2.1

/-- A tile of activations lies inside its block. -/
theorem xinb (h : Fin 2) (k : Fin k0_t1_loop.trips) (t : Fin 24) :
    ∀ a, (![h.val, 0, 32 * k.val, 128 * t.val] : Fin 4 → ℕ) a + S1x1x32x128.size a ≤ S2x1x512x3072.size a := by
  have := trip_lt k
  intro a; fin_cases a <;> simp [S1x1x32x128, S2x1x512x3072] <;> omega

/-- A tile of gains or offsets lies inside the scratch that holds them. -/
theorem ainb (h : Fin 2) (t : Fin 24) :
    ∀ a, (![h.val, 0, 128 * t.val] : Fin 3 → ℕ) a + S1x8x128.size a ≤ S2x8x3072.size a := by
  intro a; fin_cases a <;> simp [S1x8x128, S2x8x3072] <;> omega

/-- Tile `t` of trip `k`'s rows of half `h`. -/
def xtile (arg6 : Memref sig .tc .vmem S2x1x512x3072 .bf16) (X6 : BufTy.Contents (Elt F) arg6.view.ty) (h : Fin 2)
    (k : Fin k0_t1_loop.trips) (t : Fin 24) : Vec F S1x1x32x128 .bf16 :=
  View.readAt (Elt F) arg6.view (Rect.unit (s := S2x1x512x3072) ![h.val, 0, 32 * k.val, 128 * t.val] S1x1x32x128.size (xinb h k t)).toLoadRect X6

/-- Tile `t` of half `h`'s gain or offset. -/
def atile (arg17 : Memref sig .tc .vmem S2x8x3072 .f32) (X17 : BufTy.Contents (Elt F) arg17.view.ty) (h : Fin 2) (t : Fin 24) :
    Vec F S1x8x128 .f32 :=
  View.readAt (Elt F) arg17.view (Rect.unit (s := S2x8x3072) ![h.val, 0, 128 * t.val] S1x8x128.size (ainb h t)).toLoadRect X17

/-- The running sum over trip `k`'s tiles of half `h`. -/
def sumT (arg6 : Memref sig .tc .vmem S2x1x512x3072 .bf16) (X6 : BufTy.Contents (Elt F) arg6.view.ty) (h : Fin 2)
    (k : Fin k0_t1_loop.trips) : FVec F S32x128 .f32 :=
  sum24 (xtile arg6 X6 h k 0) (xtile arg6 X6 h k 1) (xtile arg6 X6 h k 2) (xtile arg6 X6 h k 3) (xtile arg6 X6 h k 4) (xtile arg6 X6 h k 5) (xtile arg6 X6 h k 6) (xtile arg6 X6 h k 7) (xtile arg6 X6 h k 8) (xtile arg6 X6 h k 9) (xtile arg6 X6 h k 10) (xtile arg6 X6 h k 11) (xtile arg6 X6 h k 12) (xtile arg6 X6 h k 13) (xtile arg6 X6 h k 14) (xtile arg6 X6 h k 15) (xtile arg6 X6 h k 16) (xtile arg6 X6 h k 17) (xtile arg6 X6 h k 18) (xtile arg6 X6 h k 19) (xtile arg6 X6 h k 20) (xtile arg6 X6 h k 21) (xtile arg6 X6 h k 22) (xtile arg6 X6 h k 23)

/-- The running sum over the squares of trip `k`'s tiles of half `h`. -/
def sqT (arg6 : Memref sig .tc .vmem S2x1x512x3072 .bf16) (X6 : BufTy.Contents (Elt F) arg6.view.ty) (h : Fin 2)
    (k : Fin k0_t1_loop.trips) : FVec F S32x128 .f32 :=
  sq24 (xtile arg6 X6 h k 0) (xtile arg6 X6 h k 1) (xtile arg6 X6 h k 2) (xtile arg6 X6 h k 3) (xtile arg6 X6 h k 4) (xtile arg6 X6 h k 5) (xtile arg6 X6 h k 6) (xtile arg6 X6 h k 7) (xtile arg6 X6 h k 8) (xtile arg6 X6 h k 9) (xtile arg6 X6 h k 10) (xtile arg6 X6 h k 11) (xtile arg6 X6 h k 12) (xtile arg6 X6 h k 13) (xtile arg6 X6 h k 14) (xtile arg6 X6 h k 15) (xtile arg6 X6 h k 16) (xtile arg6 X6 h k 17) (xtile arg6 X6 h k 18) (xtile arg6 X6 h k 19) (xtile arg6 X6 h k 20) (xtile arg6 X6 h k 21) (xtile arg6 X6 h k 22) (xtile arg6 X6 h k 23)

/-- Tile `t` of trip `k`'s normalized and scaled rows of half `h`. -/
def qtile (arg6 : Memref sig .tc .vmem S2x1x512x3072 .bf16) (arg17 arg18 : Memref sig .tc .vmem S2x8x3072 .f32)
    (X6 : BufTy.Contents (Elt F) arg6.view.ty) (X17 : BufTy.Contents (Elt F) arg17.view.ty) (X18 : BufTy.Contents (Elt F) arg18.view.ty)
    (h : Fin 2) (k : Fin k0_t1_loop.trips) (t : Fin 24) : FVec F S32x128 .f32 :=
  qT (xtile arg6 X6 h k t) (muT (sumT arg6 X6 h k)) (rstdT (sumT arg6 X6 h k) (sqT arg6 X6 h k)) (atile arg17 X17 h t) (atile arg18 X18 h t)

/-- The magnitudes' running maximum over trip `k`'s tiles of half `h`. -/
def amaxTile (arg6 : Memref sig .tc .vmem S2x1x512x3072 .bf16) (arg17 arg18 : Memref sig .tc .vmem S2x8x3072 .f32)
    (X6 : BufTy.Contents (Elt F) arg6.view.ty) (X17 : BufTy.Contents (Elt F) arg17.view.ty) (X18 : BufTy.Contents (Elt F) arg18.view.ty)
    (h : Fin 2) (k : Fin k0_t1_loop.trips) : FVec F S1x32x128 .f32 :=
  amax24 (qtile arg6 arg17 arg18 X6 X17 X18 h k 0) (qtile arg6 arg17 arg18 X6 X17 X18 h k 1) (qtile arg6 arg17 arg18 X6 X17 X18 h k 2) (qtile arg6 arg17 arg18 X6 X17 X18 h k 3) (qtile arg6 arg17 arg18 X6 X17 X18 h k 4) (qtile arg6 arg17 arg18 X6 X17 X18 h k 5) (qtile arg6 arg17 arg18 X6 X17 X18 h k 6) (qtile arg6 arg17 arg18 X6 X17 X18 h k 7) (qtile arg6 arg17 arg18 X6 X17 X18 h k 8) (qtile arg6 arg17 arg18 X6 X17 X18 h k 9) (qtile arg6 arg17 arg18 X6 X17 X18 h k 10) (qtile arg6 arg17 arg18 X6 X17 X18 h k 11) (qtile arg6 arg17 arg18 X6 X17 X18 h k 12) (qtile arg6 arg17 arg18 X6 X17 X18 h k 13) (qtile arg6 arg17 arg18 X6 X17 X18 h k 14) (qtile arg6 arg17 arg18 X6 X17 X18 h k 15) (qtile arg6 arg17 arg18 X6 X17 X18 h k 16) (qtile arg6 arg17 arg18 X6 X17 X18 h k 17) (qtile arg6 arg17 arg18 X6 X17 X18 h k 18) (qtile arg6 arg17 arg18 X6 X17 X18 h k 19) (qtile arg6 arg17 arg18 X6 X17 X18 h k 20) (qtile arg6 arg17 arg18 X6 X17 X18 h k 21) (qtile arg6 arg17 arg18 X6 X17 X18 h k 22) (qtile arg6 arg17 arg18 X6 X17 X18 h k 23)

end Words

/-! ## The block as functions of an index, over the extended reals -/

/-- The least positive number added to a variance. -/
abbrev eps : EReal := Ideal.ofBits .f32 0x358637BD#32

/-- A row of a block. -/
def xRow (X : Vec Ideal S2x1x512x3072 .bf16) (h : Fin 2) (r : Fin 512) : Fin 3072 → EReal := fun d => X (ix4 h 0 r d)

/-- The normalized, modulated and scaled block: gain and offset repeat every eight rows. -/
def qBlk (X : Vec Ideal S2x1x512x3072 .bf16) (A B : Vec Ideal S2x8x3072 .f32) (h : Fin 2) (r : Fin 512) (d : Fin 3072) : EReal :=
  modulK (xRow X h r) eps (A (ix3 h ⟨r.val % 8, by omega⟩ d)) (B (ix3 h ⟨r.val % 8, by omega⟩ d)) d

/-- A number clipped to the range of the codes. -/
def clip (x : EReal) : EReal := min (Ideal.ofBits .f32 0x43E00000#32) (max (Ideal.ofBits .f32 0xC3E00000#32) x)

/-- The block's codes. -/
def codeBlk (X : Vec Ideal S2x1x512x3072 .bf16) (A B : Vec Ideal S2x8x3072 .f32) : Vec Ideal S2x1x512x3072 .fp8e4m3 :=
  fun i => clip (qBlk X A B (i 0) (i 2) (i 3))

/-- The block's magnitudes, the greatest over the tiles lane by lane. -/
def amaxBlk (X : Vec Ideal S2x1x512x3072 .bf16) (A B : Vec Ideal S2x8x3072 .f32) : Vec Ideal S2x512x128 .f32 :=
  fun i => (Finset.univ : Finset (Fin 24)).fold max 0 fun t => mag (qBlk X A B (i 0) (i 1) (col t (i 2)))

variable (arg6 : Memref sig .tc .vmem S2x1x512x3072 .bf16) (arg17 arg18 : Memref sig .tc .vmem S2x8x3072 .f32)
  (X6 : BufTy.Contents (Elt Ideal) arg6.view.ty) (X17 : BufTy.Contents (Elt Ideal) arg17.view.ty) (X18 : BufTy.Contents (Elt Ideal) arg18.view.ty)

/-- Row `r` of trip `k`. -/
abbrev rowOf (k : Fin k0_t1_loop.trips) (r : Fin 32) : Fin 512 := ⟨32 * k.val + r.val, by have := trip_lt k; omega⟩

/-- A tile of the block read at an index. -/
theorem xtile_apply (h : Fin 2) (k : Fin k0_t1_loop.trips) (t : Fin 24) (u v : Fin 1) (r : Fin 32) (l : Fin 128) :
    xtile arg6 X6 h k t (ix4 u v r l) = arg6.view.read (Elt Ideal) X6 (ix4 h 0 (rowOf k r) (col t l)) := by
  refine View.ld_unit_apply_of (arg6.view.read (Elt Ideal) X6) _ _ _ _ _ fun a => ?_
  have hu := u.isLt
  have hv := v.isLt
  fin_cases a <;> simp [ix4] <;> omega

/-- A tile of the gain or offset read at an index. -/
theorem atile_apply (h : Fin 2) (t : Fin 24) (u : Fin 1) (r : Fin 8) (l : Fin 128) :
    atile arg17 X17 h t (ix3 u r l) = arg17.view.read (Elt Ideal) X17 (ix3 h r (col t l)) := by
  refine View.ld_unit_apply_of (arg17.view.read (Elt Ideal) X17) _ _ _ _ _ fun a => ?_
  have hu := u.isLt
  fin_cases a <;> simp [ix3] <;> omega

/-- The means of trip `k`'s rows. -/
theorem mu_apply (h : Fin 2) (k : Fin k0_t1_loop.trips) (r : Fin 32) (l : Fin 128) :
    muT (sumT arg6 X6 h k) (ix2 r l) = mean (xRow (arg6.view.read (Elt Ideal) X6) h (rowOf k r)) :=
  muT_row (fun t => xtile arg6 X6 h k t) r _ (fun t l => xtile_apply arg6 X6 h k t 0 0 r l) l

/-- The inverse standard deviations of trip `k`'s rows. -/
theorem rstd_apply (h : Fin 2) (k : Fin k0_t1_loop.trips) (r : Fin 32) (l : Fin 128) :
    rstdT (sumT arg6 X6 h k) (sqT arg6 X6 h k) (ix2 r l)
      = Ideal.rsqrt (varK (xRow (arg6.view.read (Elt Ideal) X6) h (rowOf k r)) + eps) :=
  rstdT_row (fun t => xtile arg6 X6 h k t) r _ (fun t l => xtile_apply arg6 X6 h k t 0 0 r l) l

/-- A tile of the scaled block read at an index. -/
theorem qtile_apply (h : Fin 2) (k : Fin k0_t1_loop.trips) (t : Fin 24) (r : Fin 32) (l : Fin 128) :
    qtile arg6 arg17 arg18 X6 X17 X18 h k t (ix2 r l)
      = qBlk (arg6.view.read (Elt Ideal) X6) (arg17.view.read (Elt Ideal) X17) (arg18.view.read (Elt Ideal) X18) h (rowOf k r) (col t l) := by
  rw [qtile, qT_apply, xtile_apply, mu_apply, rstd_apply, atile_apply, atile_apply, qBlk, modulK]
  have : (⟨(rowOf k r).val % 8, by omega⟩ : Fin 8) = ⟨r.val % 8, by omega⟩ := by apply Fin.ext; simp only; omega
  rw [this]; rfl

/-- A store of a clipped tile draws the block's codes. -/
theorem code_piece (h : Fin 2) (k : Fin k0_t1_loop.trips) (t : Fin 24) (off : Fin 4 → ℕ)
    (hoff : off = ![h.val, 0, 32 * k.val, 128 * t.val]) (inb : ∀ a, off a + S1x1x32x128.size a ≤ S2x1x512x3072.size a)
    (pay : Vec Ideal S1x1x32x128 .fp8e4m3) (hpay : pay = clipT (qtile arg6 arg17 arg18 X6 X17 X18 h k t)) :
    ∀ x, pay x = codeBlk (arg6.view.read (Elt Ideal) X6) (arg17.view.read (Elt Ideal) X17) (arg18.view.read (Elt Ideal) X18)
      ((Rect.unit (s := S2x1x512x3072) off S1x1x32x128.size inb).emb x) := by
  subst hoff hpay
  intro x
  obtain ⟨u, v, r, l, rfl⟩ : ∃ u v r l, x = ix4 u v r l := ⟨x 0, x 1, x 2, x 3, eq_ix4 x⟩
  have he : (Rect.unit (s := S2x1x512x3072) ![h.val, 0, 32 * k.val, 128 * t.val] S1x1x32x128.size inb).emb (ix4 u v r l)
      = ix4 h 0 (rowOf k r) (col t l) := by
    funext a
    apply Fin.ext
    refine (Rect.idx_unit_val _ _ inb _ a).trans ?_
    have hu := u.isLt
    have hv := v.isLt
    fin_cases a <;> simp [ix4] <;> omega
  rw [he, clipT_apply, qtile_apply]
  rfl

/-- A store of a tile of running maxima draws the block's magnitudes. -/
theorem amax_piece (h : Fin 2) (k : Fin k0_t1_loop.trips) (off : Fin 3 → ℕ)
    (hoff : off = ![h.val, 32 * k.val, 0]) (inb : ∀ a, off a + S1x32x128.size a ≤ S2x512x128.size a)
    (pay : Vec Ideal S1x32x128 .f32) (hpay : pay = amaxTile arg6 arg17 arg18 X6 X17 X18 h k) :
    ∀ x, pay x = amaxBlk (arg6.view.read (Elt Ideal) X6) (arg17.view.read (Elt Ideal) X17) (arg18.view.read (Elt Ideal) X18)
      ((Rect.unit (s := S2x512x128) off S1x32x128.size inb).emb x) := by
  subst hoff hpay
  intro x
  obtain ⟨u, r, l, rfl⟩ : ∃ u r l, x = ix3 u r l := ⟨x 0, x 1, x 2, eq_ix3 x⟩
  have he : (Rect.unit (s := S2x512x128) ![h.val, 32 * k.val, 0] S1x32x128.size inb).emb (ix3 u r l)
      = ix3 h (rowOf k r) l := by
    funext a
    apply Fin.ext
    refine (Rect.idx_unit_val _ _ inb _ a).trans ?_
    have hu := u.isLt
    fin_cases a <;> simp [ix3] <;> omega
  rw [he]
  refine (amax24_apply (fun t => qtile arg6 arg17 arg18 X6 X17 X18 h k t) u r l).trans ?_
  simp only [qtile_apply]
  rfl

end Cert.Proof.Block

end
-- ==== Proof.Out.lean ====
/-
  The last part of the kernel's body, which stores the results of a block from the codes and magnitudes the loop has
  stored: the velocity of each chunk of 128 rows from the codes of both halves, the image its rows are laid out into
  (patch rows and columns interleaved), the new latent, the velocity in the narrow format and the magnitudes per row.
-/
module

public import proofs.«01_k».proof.Proof.Block

@[expose] public section

set_option maxRecDepth 16384

noncomputable section

namespace Cert.Proof.Out

open Cert.KernelIdeal Cert.KernelIdeal.Gen Idealize.ShloMosaic Idealize.ShloMosaic.TcCoe
open Cert.Proof.RowMath Cert.Proof.Tiles Cert.Proof.Block

section Words
variable {F : FTy → Type} [FloatOps F] [Named F]

/-- The projection of one half's chunk of codes, unscaled by guidance: `(w · codes) · s · ws + bias`. -/
def proj (w : Vec F S64x3072 .fp8e4m3) (q : Vec F S1x1x128x3072 .fp8e4m3) (s : Elt F .f32) (ws bias : Vec F S64x1 .f32) :
    FVec F S64x128 .f32 :=
  addf (mulf (mulf (matmul dot_S64x3072_S128x3072_S64x128_1_1_0_0_n_n none (shapeCast S64x3072 w shapeCasts_S64x3072_S64x3072)
      (shapeCast S128x3072 q shapeCasts_S1x1x128x3072_S128x3072) (constant S64x128 .f32 0x00000000#32)) (broadcast S64x128 s))
    (broadcastTo S64x128 (shapeCast S64x1 ws shapeCasts_S64x1_S64x1) broadcasts_S64x1_S64x128))
    (broadcastTo S64x128 (shapeCast S64x1 bias shapeCasts_S64x1_S64x1) broadcasts_S64x1_S64x128)

/-- The guided velocity of a chunk. -/
def guided (g : Elt F .f32) (y0 y1 : FVec F S64x128 .f32) : FVec F S64x128 .f32 :=
  addf y1 (mulf (broadcast S64x128 g) (subf y0 y1))

/-- The lane numbers. -/
def lanes : IVec S8x128 32 := iota .tc S8x128 32 [1] iota_S8x128_d1_w32

/-- Which lanes are odd. -/
def oddLane : IVec S8x128 1 := cmpi .eq (andi lanes (broadcast S8x128 1#32)) (broadcast S8x128 1#32)

/-- The lane numbers halved, rounding down, starting at `o`. -/
def halfLane (o : BitVec 32) : IVec S8x128 32 :=
  addi (broadcast S8x128 o)
    (select (andi (cmpi .ne (subi (extui 32 (cmpi .sgt lanes (broadcast S8x128 0#32)) natLt_1_32)
          (extui 32 (cmpi .slt lanes (broadcast S8x128 0#32)) natLt_1_32))
        (broadcast S8x128 (Scalar.subi (Scalar.extui (Scalar.cmpi .sgt 2#32 0#32)) (Scalar.extui (Scalar.cmpi .slt 2#32 0#32)))))
      (cmpi .ne (remsi lanes (broadcast S8x128 2#32)) (broadcast S8x128 0#32)))
      (subi (divsi lanes (broadcast S8x128 2#32)) (broadcast S8x128 1#32))
      (divsi lanes (broadcast S8x128 2#32)))

/-- Lane numbers counted from the end where negative. -/
def wrapLane (x : IVec S8x128 32) : IVec S8x128 32 :=
  shapeCast S8x128 (shapeCast S8x128x1 (select (cmpi .slt x (broadcast S8x128 0#32)) (addi x (broadcast S8x128 128#32)) x)
    shapeCasts_S8x128_S8x128x1) shapeCasts_S8x128x1_S8x128

/-- Eight rows of a chunk of velocities, at a start of at most 56, lie inside it. -/
theorem sliceOk (o : ℕ) (ho : o ≤ 56) : S64x128.Slices ![o, 0] S8x128 := ⟨rfl, fun a => by
  fin_cases a <;> simp [S64x128, S8x128] <;> omega⟩

/-- Eight rows of the image: even lanes from rows `o ..` of the velocity, odd lanes from rows `o + 16 ..`. -/
def imgRows (b : BitVec 32) (y : FVec F S64x128 .f32) (o : ℕ) (h0 : o ≤ 56) (o' : ℕ) (h1 : o' ≤ 56) : FVec F S8x128 .f32 :=
  shapeCast S8x128 (select oddLane
    (dynamicGather 1 (extractStridedSlice S8x128 ![o', 0] y (sliceOk o' h1)) (wrapLane (halfLane b)))
    (dynamicGather 1 (extractStridedSlice S8x128 ![o, 0] y (sliceOk o h0)) (wrapLane (halfLane b)))) shapeCasts_S8x128_S8x128

/-- The eight strided rows of a store of the image lie inside it. -/
theorem imgInb (p : Fin 16) (ch : Fin 2) (a : Fin 2) : S8x128.size a = 0 ∨
    (![136 * ch.val + p.val, 0] : Fin 2 → ℕ) a + (![17, 1] : Fin 2 → ℕ) a * (S8x128.size a - 1) < S272x128.size a := by
  refine .inr ?_
  fin_cases a <;> simp [S8x128, S272x128] <;> omega

/-- The store of eight rows of the image, seventeen rows apart: row `p` of the patch rows, channels `8 ch ..`. -/
def imgP (y : FVec F S64x128 .f32) (p : Fin 16) (ch : Fin 2) : View.Piece (Elt F) S272x128 .f32 :=
  ⟨⟨⟨![136 * ch.val + p.val, 0], S8x128.size, ![17, 1], imgInb p ch⟩, spos_17_1⟩,
    imgRows (BitVec.ofNat 32 (64 * (p.val / 2 % 2))) y (32 * (p.val % 2) + 8 * ch.val) (by omega) (32 * (p.val % 2) + 16 + 8 * ch.val) (by omega)⟩

/-- The image of a block: every store of the four chunks' velocities, the last first. -/
def imgL (y0 y1 y2 y3 : FVec F S64x128 .f32) : List (View.Piece (Elt F) S272x128 .f32) :=
  [imgP y3 15 1, imgP y3 15 0,
   imgP y3 14 1, imgP y3 14 0,
   imgP y3 13 1, imgP y3 13 0,
   imgP y3 12 1, imgP y3 12 0,
   imgP y2 11 1, imgP y2 11 0,
   imgP y2 10 1, imgP y2 10 0,
   imgP y2 9 1, imgP y2 9 0,
   imgP y2 8 1, imgP y2 8 0,
   imgP y1 7 1, imgP y1 7 0,
   imgP y1 6 1, imgP y1 6 0,
   imgP y1 5 1, imgP y1 5 0,
   imgP y1 4 1, imgP y1 4 0,
   imgP y0 3 1, imgP y0 3 0,
   imgP y0 2 1, imgP y0 2 0,
   imgP y0 1 1, imgP y0 1 0,
   imgP y0 0 1, imgP y0 0 0]

/-- The sixteen rows of a channel lie inside the image. -/
theorem chanInb (g : Fin 16) : ∀ a, (![17 * g.val, 0] : Fin 2 → ℕ) a + S16x128.size a ≤ S272x128.size a := by
  intro a; fin_cases a <;> simp [S16x128, S272x128] <;> omega

/-- Channel `g` of the image. -/
def chan (arg20 : Memref sig .tc .vmem S272x128 .f32) (L : List (View.Piece (Elt F) S272x128 .f32)) (g : Fin 16) : Vec F S16x128 .f32 :=
  arg20.view.readCov L (Rect.unit (s := S272x128) ![17 * g.val, 0] S16x128.size (chanInb g)).toLoadRect

/-- A channel of the latent lies inside its block. -/
theorem latInb (g : Fin 16) : ∀ a, (![0, g.val, 0, 0] : Fin 4 → ℕ) a + S1x1x16x128.size a ≤ S1x16x16x128.size a := by
  intro a; fin_cases a <;> simp [S1x1x16x128, S1x16x16x128] <;> omega

/-- Channel `g` of the old latent. -/
def latIn (arg12 : Memref sig .tc .vmem S1x16x16x128 .f32) (X12 : BufTy.Contents (Elt F) arg12.view.ty) (g : Fin 16) : Vec F S1x1x16x128 .f32 :=
  View.readAt (Elt F) arg12.view (Rect.unit (s := S1x16x16x128) ![0, g.val, 0, 0] S1x1x16x128.size (latInb g)).toLoadRect X12

/-- The store of channel `g` of the new latent. -/
def latP (dt : Elt F .f32) (im : Vec F S16x128 .f32) (old : Vec F S1x1x16x128 .f32) (g : Fin 16) : View.Piece (Elt F) S1x16x16x128 .f32 :=
  ⟨Rect.unit (s := S1x16x16x128) ![0, g.val, 0, 0] S1x1x16x128.size (latInb g),
    shapeCast S1x1x16x128 (addf (shapeCast S16x128 old shapeCasts_S1x1x16x128_S16x128) (mulf (broadcast S16x128 dt) im)) shapeCasts_S16x128_S1x1x16x128⟩

/-- The store of channel `g` of the velocity, in the narrow format. -/
def velP (im : Vec F S16x128 .f32) (g : Fin 16) : View.Piece (Elt F) S1x16x16x128 .bf16 :=
  ⟨Rect.unit (s := S1x16x16x128) ![0, g.val, 0, 0] S1x1x16x128.size (latInb g),
    shapeCast S1x1x16x128 (truncf .bf16 im bitsLt_bf16_f32) shapeCasts_S16x128_S1x1x16x128⟩

/-- The stores of the new latent, the last first. -/
def latL (dt : Elt F .f32) (im : Fin 16 → Vec F S16x128 .f32) (old : Fin 16 → Vec F S1x1x16x128 .f32) : List (View.Piece (Elt F) S1x16x16x128 .f32) :=
  [latP dt (im 15) (old 15) 15,
   latP dt (im 14) (old 14) 14,
   latP dt (im 13) (old 13) 13,
   latP dt (im 12) (old 12) 12,
   latP dt (im 11) (old 11) 11,
   latP dt (im 10) (old 10) 10,
   latP dt (im 9) (old 9) 9,
   latP dt (im 8) (old 8) 8,
   latP dt (im 7) (old 7) 7,
   latP dt (im 6) (old 6) 6,
   latP dt (im 5) (old 5) 5,
   latP dt (im 4) (old 4) 4,
   latP dt (im 3) (old 3) 3,
   latP dt (im 2) (old 2) 2,
   latP dt (im 1) (old 1) 1,
   latP dt (im 0) (old 0) 0]

/-- The stores of the velocity, the last first. -/
def velL (im : Fin 16 → Vec F S16x128 .f32) : List (View.Piece (Elt F) S1x16x16x128 .bf16) :=
  [velP (im 15) 15,
   velP (im 14) 14,
   velP (im 13) 13,
   velP (im 12) 12,
   velP (im 11) 11,
   velP (im 10) 10,
   velP (im 9) 9,
   velP (im 8) 8,
   velP (im 7) 7,
   velP (im 6) 6,
   velP (im 5) 5,
   velP (im 4) 4,
   velP (im 3) 3,
   velP (im 2) 2,
   velP (im 1) 1,
   velP (im 0) 0]

/-- The 128 magnitudes of a chunk lie inside their block. -/
theorem amaxInb (h : Fin 2) (c : Fin 4) : ∀ a, (![h.val, 0, 0, 128 * c.val] : Fin 4 → ℕ) a + S1x1x1x128.size a ≤ S2x1x1x512.size a := by
  intro a; fin_cases a <;> simp [S1x1x1x128, S2x1x1x512] <;> omega

/-- The store of the magnitudes of a chunk's rows: the greatest lane, scaled back. -/
def amaxP (s : Elt F .f32) (S : Vec F S1x128x128 .f32) (h : Fin 2) (c : Fin 4) : View.Piece (Elt F) S2x1x1x512 .f32 :=
  ⟨Rect.unit (s := S2x1x1x512) ![h.val, 0, 0, 128 * c.val] S1x1x1x128.size (amaxInb h c),
    shapeCast S1x1x1x128 (mulf (shapeCast S1x128 (multiReduction .maximumf [0] S128
      (transpose S128x128 [1, 0] (shapeCast S128x128 S shapeCasts_S1x128x128_S128x128) transposes_S128x128_p1_0_S128x128)
      0xFF800000#32 reduces_S128x128_S128 (.inl rfl) rfl) shapeCasts_S128_S1x128) (broadcast S1x128 s)) shapeCasts_S1x128_S1x1x1x128⟩

/-- The stores of the magnitudes, the last first. -/
def amaxL (s0 s1 : Elt F .f32) (S : Fin 2 → Fin 4 → Vec F S1x128x128 .f32) : List (View.Piece (Elt F) S2x1x1x512 .f32) :=
  [amaxP s1 (S 1 3) 1 3, amaxP s1 (S 1 2) 1 2, amaxP s1 (S 1 1) 1 1, amaxP s1 (S 1 0) 1 0, amaxP s0 (S 0 3) 0 3, amaxP s0 (S 0 2) 0 2, amaxP s0 (S 0 1) 0 1, amaxP s0 (S 0 0) 0 0]

/-- The 128 rows of codes of a chunk lie inside their block. -/
theorem codesInb (h : Fin 2) (c : Fin 4) : ∀ a, (![h.val, 0, 128 * c.val, 0] : Fin 4 → ℕ) a + S1x1x128x3072.size a ≤ S2x1x512x3072.size a := by
  intro a; fin_cases a <;> simp [S1x1x128x3072, S2x1x512x3072] <;> omega

/-- The codes of chunk `c` of half `h`, read back. -/
def codesC (arg15 : Memref sig .tc .vmem S2x1x512x3072 .fp8e4m3) (L : List (View.Piece (Elt F) S2x1x512x3072 .fp8e4m3)) (h : Fin 2) (c : Fin 4) :
    Vec F S1x1x128x3072 .fp8e4m3 :=
  arg15.view.readCov L (Rect.unit (s := S2x1x512x3072) ![h.val, 0, 128 * c.val, 0] S1x1x128x3072.size (codesInb h c)).toLoadRect

/-- The 128 rows of running maxima of a chunk lie inside their scratch. -/
theorem rowsInb (h : Fin 2) (c : Fin 4) : ∀ a, (![h.val, 128 * c.val, 0] : Fin 3 → ℕ) a + S1x128x128.size a ≤ S2x512x128.size a := by
  intro a; fin_cases a <;> simp [S1x128x128, S2x512x128] <;> omega

/-- The magnitudes of chunk `c` of half `h`, read back. -/
def rowsC (arg19 : Memref sig .tc .vmem S2x512x128 .f32) (L : List (View.Piece (Elt F) S2x512x128 .f32)) (h : Fin 2) (c : Fin 4) :
    Vec F S1x128x128 .f32 :=
  arg19.view.readCov L (Rect.unit (s := S2x512x128) ![h.val, 128 * c.val, 0] S1x128x128.size (rowsInb h c)).toLoadRect

/-- The velocity of chunk `c` from the codes stored. -/
def velC (arg15 : Memref sig .tc .vmem S2x1x512x3072 .fp8e4m3) (L : List (View.Piece (Elt F) S2x1x512x3072 .fp8e4m3))
    (w : Vec F S64x3072 .fp8e4m3) (ws bias : Vec F S64x1 .f32) (s0 s1 g : Elt F .f32) (c : Fin 4) : FVec F S64x128 .f32 :=
  guided g (proj w (codesC arg15 L 0 c) s0 ws bias) (proj w (codesC arg15 L 1 c) s1 ws bias)

/-- The image from the codes stored. -/
def imgC (arg15 : Memref sig .tc .vmem S2x1x512x3072 .fp8e4m3) (L : List (View.Piece (Elt F) S2x1x512x3072 .fp8e4m3))
    (w : Vec F S64x3072 .fp8e4m3) (ws bias : Vec F S64x1 .f32) (s0 s1 g : Elt F .f32) : List (View.Piece (Elt F) S272x128 .f32) :=
  imgL (velC arg15 L w ws bias s0 s1 g 0) (velC arg15 L w ws bias s0 s1 g 1) (velC arg15 L w ws bias s0 s1 g 2) (velC arg15 L w ws bias s0 s1 g 3)

end Words

end Cert.Proof.Out
-- ==== Proof.OutMath.lean ====
/-
  The stores of a block's results read at an index, over the extended reals.
-/
module

public import proofs.«01_k».proof.Proof.Out
public import Idealize.ShloMosaic.Lib.Pointwise

@[expose] public section

set_option maxRecDepth 16384

noncomputable section

namespace Cert.Proof.OutMath

open Cert.KernelIdeal Cert.KernelIdeal.Gen Idealize.ShloMosaic Idealize.ShloMosaic.TcCoe
open Cert.Proof.RowMath Cert.Proof.Tiles Cert.Proof.Block Cert.Proof.Out

/-! ## Lists of stores that are images of lists of positions -/

/-- Stores taken from a list of positions draw `f` if each does. -/
theorem Draws.map {S : Shape} {e : EltTy} {Val : EltTy → Type} {ι : Type} (L : List ι) (P : ι → View.Piece Val S e) (f : S.Idx → Val e)
    (h : ∀ i x, (P i).2 x = f ((P i).1.emb x)) : Draws (L.map P) f := fun p hp => by
  obtain ⟨i, _, rfl⟩ := List.mem_map.mp hp
  exact h i

/-- Where one of the positions' stores reaches, the contents are the function drawn. -/
theorem canon_map {S : Shape} {e : EltTy} {Val : EltTy → Type} [∀ e, Nonempty (Val e)] {ι : Type} (L : List ι) (hL : ∀ i, i ∈ L)
    (P : ι → View.Piece Val S e) (f : S.Idx → Val e) (h : ∀ i x, (P i).2 x = f ((P i).1.emb x)) (i : ι) (x : (P i).1.shape.Idx) :
    View.canon (L.map P) ((P i).1.emb x) = f ((P i).1.emb x) :=
  (Draws.map L P f h).canon _ ⟨P i, List.mem_map.mpr ⟨i, hL i, rfl⟩, (LoadRect.mem_set _).mpr fun a => ⟨(x a).val, (x a).isLt, rfl⟩⟩

/-! ## The lanes -/

/-- Odd lanes. -/
theorem oddLane_apply (s : Fin 8) (l : Fin 128) : oddLane (ix2 s l) = if l.val % 2 = 1 then 1#1 else 0#1 := by
  unfold oddLane lanes
  pointwise
  revert l
  decide +kernel

/-- The lane an even or odd lane's value comes from. -/
theorem wrap_apply (gh : Fin 2) (s : Fin 8) (l : Fin 128) :
    (wrapLane (halfLane (BitVec.ofNat 32 (64 * gh.val))) (ix2 s l)).toNat = 64 * gh.val + l.val / 2 := by
  unfold wrapLane
  rw [shapeCast_apply _ _ (ix2 s l) (ix3 s l 0) (by rw [Shape.rowMajor_val_three, Shape.rowMajor_val_two]; simp [ix2, ix3, S8x128, S8x128x1]),
    shapeCast_apply _ _ (ix3 s l 0) (ix2 s l) (by rw [Shape.rowMajor_val_three, Shape.rowMajor_val_two]; simp [ix2, ix3, S8x128, S8x128x1])]
  unfold halfLane lanes
  pointwise
  revert gh l
  decide +kernel

/-! ## The velocity -/

/-- The projection at an index. -/
theorem proj_apply (w : Vec Ideal S64x3072 .fp8e4m3) (q : Vec Ideal S1x1x128x3072 .fp8e4m3) (s : EReal) (ws bias : Vec Ideal S64x1 .f32)
    (p : Fin 64) (k : Fin 128) :
    proj w q s ws bias (ix2 p k) = (∑ d : Fin 3072, w (ix2 p d) * q (ix4 0 0 k d)) * s * ws (ix2 p 0) + bias (ix2 p 0) := by
  unfold proj
  pointwise

/-- The guided velocity at an index. -/
theorem guided_apply (g : EReal) (y0 y1 : FVec Ideal S64x128 .f32) (i : S64x128.Idx) : guided g y0 y1 i = y1 i + g * (y0 i - y1 i) := rfl

/-- The rows of the image at an index. -/
theorem imgRows_apply (gh : Fin 2) (y : FVec Ideal S64x128 .f32) (o : ℕ) (h0 : o ≤ 56) (o' : ℕ) (h1 : o' ≤ 56) (ho : o' = o + 16) (s : Fin 8) (l : Fin 128) :
    imgRows (BitVec.ofNat 32 (64 * gh.val)) y o h0 o' h1 (ix2 s l)
      = y (ix2 ⟨o + 16 * (l.val % 2) + s.val, by have := l.isLt; have := s.isLt; omega⟩ ⟨64 * gh.val + l.val / 2, by have := gh.isLt; have := l.isLt; omega⟩) := by
  unfold imgRows
  pointwise
  rw [oddLane_apply]
  have hl := l.isLt
  have hg := gh.isLt
  have e : ∀ h, (⟨(wrapLane (halfLane (BitVec.ofNat 32 (64 * gh.val))) (ix2 s l)).toNat % 128, h⟩ : Fin 128)
      = ⟨64 * gh.val + l.val / 2, by omega⟩ := fun h => Fin.ext (by simp only [wrap_apply]; omega)
  by_cases hb : l.val % 2 = 1
  · rw [if_pos hb]; show y _ = _
    exact congrArg y (congrArg₂ ix2 (Fin.ext (by simp; omega)) (e _))
  · rw [if_neg hb]; show y _ = _
    exact congrArg y (congrArg₂ ix2 (Fin.ext (by simp; omega)) (e _))

/-! ## The image -/

/-- The image's value at channel `g`, row `s`, column `l`: the velocity of chunk `s / 4`, feature `32 (s % 2) + 16 (l % 2) + g`,
    row `64 (s / 2 % 2) + l / 2`. -/
def imgE (Y : Fin 4 → FVec Ideal S64x128 .f32) (g : Fin 16) (s : Fin 16) (l : Fin 128) : EReal :=
  Y ⟨s.val / 4, by omega⟩ (ix2 ⟨32 * (s.val % 2) + 16 * (l.val % 2) + g.val, by omega⟩ ⟨64 * (s.val / 2 % 2) + l.val / 2, by omega⟩)

/-- The image's buffer holds each channel's sixteen rows every seventeen rows. -/
def imgF (Y : Fin 4 → FVec Ideal S64x128 .f32) : Vec Ideal S272x128 .f32 := fun i =>
  imgE Y ⟨(i 0).val / 17, by have h : (i 0).val < 272 := (i 0).isLt; omega⟩ ⟨(i 0).val % 17 % 16, by omega⟩ (i 1)

/-- The image's stores by position, the last first. -/
def imgPos : List (Fin 16 × Fin 2) := (List.finRange 16).reverse.flatMap fun p => [(p, 1), (p, 0)]

/-- The image's stores, each from its chunk. -/
theorem imgL_eq (Y : Fin 4 → FVec Ideal S64x128 .f32) :
    imgL (Y 0) (Y 1) (Y 2) (Y 3) = imgPos.map fun x => imgP (Y ⟨x.1.val / 4, by omega⟩) x.1 x.2 := rfl

/-- Each store of the image draws it. -/
theorem imgP_draws (Y : Fin 4 → FVec Ideal S64x128 .f32) (x : Fin 16 × Fin 2) (i : S8x128.Idx) :
    (imgP (Y ⟨x.1.val / 4, by omega⟩) x.1 x.2).2 i = imgF Y ((imgP (Y ⟨x.1.val / 4, by omega⟩) x.1 x.2).1.emb i) := by
  obtain ⟨p, ch⟩ := x
  obtain ⟨s, l, rfl⟩ : ∃ (s : Fin 8) (l : Fin 128), i = ix2 s l := ⟨i 0, i 1, eq_ix2 i⟩
  have hp := p.isLt
  have hch := ch.isLt
  have hs := s.isLt
  have hl := l.isLt
  refine (imgRows_apply ⟨p.val / 2 % 2, by omega⟩ (Y ⟨p.val / 4, by omega⟩) (32 * (p.val % 2) + 8 * ch.val) (by omega) (32 * (p.val % 2) + 16 + 8 * ch.val) (by omega) (by omega) s l).trans ?_
  have e0 : ((imgP (Y ⟨p.val / 4, by omega⟩) p ch).1.emb (ix2 s l) 0).val = 136 * ch.val + p.val + 17 * s.val := rfl
  have e1 : (imgP (Y ⟨p.val / 4, by omega⟩) p ch).1.emb (ix2 s l) 1 = l := Fin.ext (show 0 + 1 * l.val = l.val by omega)
  unfold imgF imgE
  simp only [e0, e1]
  have q : (136 * ch.val + p.val + 17 * s.val) % 17 % 16 = p.val := by omega
  have r : (136 * ch.val + p.val + 17 * s.val) / 17 = 8 * ch.val + s.val := by omega
  simp only [q, r]
  exact congrArg (Y _) (congrArg₂ ix2 (Fin.ext (by simp; omega)) rfl)

/-- A channel of the image read at an index. -/
theorem chan_apply (arg20 : Memref sig .tc .vmem S272x128 .f32) (Y : Fin 4 → FVec Ideal S64x128 .f32) (g : Fin 16) (s : Fin 16) (l : Fin 128) :
    chan arg20 (imgL (Y 0) (Y 1) (Y 2) (Y 3)) g (ix2 s l) = imgE Y g s l := by
  unfold chan
  rw [View.readCov_eq_canon', imgL_eq]
  have hs := s.isLt
  have hg := g.isLt
  have e : (Rect.unit (s := S272x128) ![17 * g.val, 0] S16x128.size (chanInb g)).toLoadRect.idx (ix2 s l)
      = (imgP (Y ⟨s.val / 4, by omega⟩) s ⟨g.val / 8, by omega⟩).1.emb (ix2 (⟨g.val % 8, by omega⟩ : Fin 8) l) := by
    funext a
    fin_cases a
    · exact Fin.ext (show 17 * g.val + 1 * s.val = 136 * (g.val / 8) + s.val + 17 * (g.val % 8) by omega)
    · exact Fin.ext (show 0 + 1 * l.val = 0 + 1 * l.val from rfl)
  show View.canon _ ((Rect.unit (s := S272x128) ![17 * g.val, 0] S16x128.size (chanInb g)).toLoadRect.idx (ix2 s l)) = _
  rw [e]
  refine (canon_map imgPos (by decide) (fun x => imgP (Y ⟨x.1.val / 4, by omega⟩) x.1 x.2) (imgF Y) (fun x => imgP_draws Y x) (s, ⟨g.val / 8, by omega⟩)
    (ix2 (⟨g.val % 8, by omega⟩ : Fin 8) l)).trans ?_
  have e0 : ((imgP (Y ⟨s.val / 4, by omega⟩) s ⟨g.val / 8, by omega⟩).1.emb (ix2 (⟨g.val % 8, by omega⟩ : Fin 8) l) 0).val = 136 * (g.val / 8) + s.val + 17 * (g.val % 8) := rfl
  have e1 : (imgP (Y ⟨s.val / 4, by omega⟩) s ⟨g.val / 8, by omega⟩).1.emb (ix2 (⟨g.val % 8, by omega⟩ : Fin 8) l) 1 = l := Fin.ext (show 0 + 1 * l.val = l.val by omega)
  unfold imgF
  simp only [e0, e1]
  have q : (136 * (g.val / 8) + s.val + 17 * (g.val % 8)) % 17 % 16 = s.val := by omega
  have r : (136 * (g.val / 8) + s.val + 17 * (g.val % 8)) / 17 = g.val := by omega
  simp only [q, r]

/-! ## The new latent and the velocity's narrow copy -/

/-- All channels, the last first. -/
def chans : List (Fin 16) := (List.finRange 16).reverse

/-- The stores of the new latent, listed by channel. -/
theorem latL_eq (dt : EReal) (im : Fin 16 → Vec Ideal S16x128 .f32) (old : Fin 16 → Vec Ideal S1x1x16x128 .f32) :
    latL dt im old = chans.map fun g => latP dt (im g) (old g) g := rfl

/-- The stores of the velocities, listed by channel. -/
theorem velL_eq (im : Fin 16 → Vec Ideal S16x128 .f32) : velL im = chans.map fun g => velP (im g) g := rfl

/-- The new latent's stores draw `old + dt · im`. -/
theorem lat_canon (dt : EReal) (im : Fin 16 → Vec Ideal S16x128 .f32) (old : Fin 16 → Vec Ideal S1x1x16x128 .f32)
    (u : Fin 1) (g s : Fin 16) (l : Fin 128) :
    View.canon (latL dt im old) (ix4 u g s l) = old g (ix4 0 0 s l) + dt * im g (ix2 s l) := by
  rw [latL_eq]
  have hu := u.isLt
  have e : (ix4 u g s l : S1x16x16x128.Idx) = (latP dt (im g) (old g) g).1.emb (ix4 (0 : Fin 1) (0 : Fin 1) s l) := by
    funext a
    fin_cases a
    · exact Fin.ext (show u.val = 0 + 1 * 0 by omega)
    · exact Fin.ext (show g.val = g.val + 1 * 0 by omega)
    · exact Fin.ext (show s.val = 0 + 1 * s.val by omega)
    · exact Fin.ext (show l.val = 0 + 1 * l.val by omega)
  rw [e]
  refine (canon_map chans (by decide) (fun g => latP dt (im g) (old g) g)
    (fun i => old (i 1) (ix4 0 0 (i 2) (i 3)) + dt * im (i 1) (ix2 (i 2) (i 3))) (fun g x => ?_) g (ix4 (0 : Fin 1) (0 : Fin 1) s l)).trans ?_
  · obtain ⟨a, b, s, l, rfl⟩ : ∃ (a : Fin 1) (b : Fin 1) (s : Fin 16) (l : Fin 128), x = ix4 a b s l :=
      ⟨x 0, x 1, x 2, x 3, eq_ix4 x⟩
    have hb := b.isLt
    have e1 : (latP dt (im g) (old g) g).1.emb (ix4 a b s l) 1 = g := Fin.ext (show g.val + 1 * b.val = g.val by omega)
    have e2 : (latP dt (im g) (old g) g).1.emb (ix4 a b s l) 2 = s := Fin.ext (show 0 + 1 * s.val = s.val by omega)
    have e3 : (latP dt (im g) (old g) g).1.emb (ix4 a b s l) 3 = l := Fin.ext (show 0 + 1 * l.val = l.val by omega)
    rw [e1, e2, e3]
    unfold latP
    dsimp only
    pointwise
  · rw [← e]
    rfl

/-- The velocity's stores draw it. -/
theorem vel_canon (im : Fin 16 → Vec Ideal S16x128 .f32) (u : Fin 1) (g s : Fin 16) (l : Fin 128) :
    View.canon (velL im) (ix4 u g s l) = im g (ix2 s l) := by
  rw [velL_eq]
  have hu := u.isLt
  have e : (ix4 u g s l : S1x16x16x128.Idx) = (velP (im g) g).1.emb (ix4 (0 : Fin 1) (0 : Fin 1) s l) := by
    funext a
    fin_cases a
    · exact Fin.ext (show u.val = 0 + 1 * 0 by omega)
    · exact Fin.ext (show g.val = g.val + 1 * 0 by omega)
    · exact Fin.ext (show s.val = 0 + 1 * s.val by omega)
    · exact Fin.ext (show l.val = 0 + 1 * l.val by omega)
  rw [e]
  refine (canon_map chans (by decide) (fun g => velP (im g) g)
    (fun i => im (i 1) (ix2 (i 2) (i 3))) (fun g x => ?_) g (ix4 (0 : Fin 1) (0 : Fin 1) s l)).trans ?_
  · obtain ⟨a, b, s, l, rfl⟩ : ∃ (a : Fin 1) (b : Fin 1) (s : Fin 16) (l : Fin 128), x = ix4 a b s l :=
      ⟨x 0, x 1, x 2, x 3, eq_ix4 x⟩
    have hb := b.isLt
    have e1 : (velP (im g) g).1.emb (ix4 a b s l) 1 = g := Fin.ext (show g.val + 1 * b.val = g.val by omega)
    have e2 : (velP (im g) g).1.emb (ix4 a b s l) 2 = s := Fin.ext (show 0 + 1 * s.val = s.val by omega)
    have e3 : (velP (im g) g).1.emb (ix4 a b s l) 3 = l := Fin.ext (show 0 + 1 * l.val = l.val by omega)
    rw [e1, e2, e3]
    unfold velP
    dsimp only
    pointwise
  · rw [← e]
    rfl

/-! ## The magnitudes -/

/-- The magnitudes' stores by position, the last first. -/
def amaxPos : List (Fin 2 × Fin 4) := [(1, 3), (1, 2), (1, 1), (1, 0), (0, 3), (0, 2), (0, 1), (0, 0)]

/-- The stores of the magnitudes, listed by half and chunk. -/
theorem amaxL_eq (s : Fin 2 → EReal) (S : Fin 2 → Fin 4 → Vec Ideal S1x128x128 .f32) :
    amaxL (F := Ideal) (s 0) (s 1) S = amaxPos.map fun x => amaxP (F := Ideal) (s x.1) (S x.1 x.2) x.1 x.2 := rfl

/-- The word of minus infinity. -/
theorem neg_inf : Ideal.ofBits .f32 0xFF800000#32 = ⊥ := by simp [Ideal.ofBits, Ideal.ieee]

/-- A row's magnitude: the greatest lane, scaled back. -/
theorem amaxP_apply (s : EReal) (S : Vec Ideal S1x128x128 .f32) (h : Fin 2) (c : Fin 4) (l : Fin 128) (a b d : Fin 1) :
    (amaxP (F := Ideal) s S h c).2 (ix4 a b d l) = ((Finset.univ : Finset (Fin 128)).fold max ⊥ fun m => S (ix3 0 l m)) * s := by
  unfold amaxP
  dsimp only
  pointwise
  rw [neg_inf]

/-- The magnitudes' stores draw the rows' greatest lanes, scaled back. -/
theorem amax_canon (s : Fin 2 → EReal) (S : Fin 2 → Fin 4 → Vec Ideal S1x128x128 .f32) (h : Fin 2) (u v : Fin 1) (r : Fin 512) :
    View.canon (amaxL (F := Ideal) (s 0) (s 1) S) (ix4 h u v r)
      = ((Finset.univ : Finset (Fin 128)).fold max ⊥ fun m => S h ⟨r.val / 128, by omega⟩ (ix3 0 ⟨r.val % 128, by omega⟩ m)) * s h := by
  rw [amaxL_eq]
  have hu := u.isLt
  have hv := v.isLt
  have hr := r.isLt
  have e : (ix4 h u v r : S2x1x1x512.Idx) = (amaxP (F := Ideal) (s h) (S h ⟨r.val / 128, by omega⟩) h ⟨r.val / 128, by omega⟩).1.emb
      (ix4 (0 : Fin 1) (0 : Fin 1) (0 : Fin 1) (⟨r.val % 128, by omega⟩ : Fin 128)) := by
    funext a
    fin_cases a
    · exact Fin.ext (show h.val = h.val + 1 * 0 by omega)
    · exact Fin.ext (show u.val = 0 + 1 * 0 by omega)
    · exact Fin.ext (show v.val = 0 + 1 * 0 by omega)
    · exact Fin.ext (show r.val = 128 * (r.val / 128) + 1 * (r.val % 128) by omega)
  rw [e]
  refine (canon_map amaxPos (by decide) (fun x => amaxP (F := Ideal) (s x.1) (S x.1 x.2) x.1 x.2)
    (fun i => ((Finset.univ : Finset (Fin 128)).fold max ⊥ fun m => S (i 0) ⟨(i 3).val / 128, by have h : (i 3).val < 512 := (i 3).isLt; omega⟩
      (ix3 0 ⟨(i 3).val % 128, by omega⟩ m)) * s (i 0)) (fun y x => ?_) (h, ⟨r.val / 128, by omega⟩)
    (ix4 (0 : Fin 1) (0 : Fin 1) (0 : Fin 1) (⟨r.val % 128, by omega⟩ : Fin 128))).trans ?_
  · obtain ⟨h, c⟩ := y
    obtain ⟨a, b, d, l, rfl⟩ : ∃ (a : Fin 1) (b : Fin 1) (d : Fin 1) (l : Fin 128), x = ix4 a b d l :=
      ⟨x 0, x 1, x 2, x 3, eq_ix4 x⟩
    have ha := a.isLt
    have hl := l.isLt
    have e1 : (amaxP (F := Ideal) (s h) (S h c) h c).1.emb (ix4 a b d l) 0 = h := Fin.ext (show h.val + 1 * a.val = h.val by omega)
    have e3 : ((amaxP (F := Ideal) (s h) (S h c) h c).1.emb (ix4 a b d l) 3).val = 128 * c.val + l.val := (show 128 * c.val + 1 * l.val = _ by omega)
    refine (amaxP_apply (s h) (S h c) h c l a b d).trans ?_
    have q : (128 * c.val + l.val) / 128 = c.val := by omega
    have q' : (128 * c.val + l.val) % 128 = l.val := by omega
    simp only [e1, e3, q, q']
  · rw [← e]
    rfl

end Cert.Proof.OutMath
-- ==== Proof.Case.lean ====
/-
  What the kernel's body stores at a grid point, in both of its cases: where it first recomputes the gain and offset
  rows (the first block of a batch entry) and where it keeps them. Each list of stores is the plain list of the module
  `Out`, over the codes and magnitudes of the loop.
-/
module

public import proofs.«01_k».proof.Proof.Out
public import proofs.«01_k».proof.Proof.Gen.KernelIdeal.Frame

@[expose] public section

set_option maxRecDepth 16384
set_option maxHeartbeats 4000000

noncomputable section

namespace Cert.Proof.Case

open Cert.KernelIdeal Cert.KernelIdeal.Gen Idealize.ShloMosaic Idealize.ShloMosaic.TcCoe
open Cert.Proof.Block Cert.Proof.Out

section Words
variable {F : FTy → Type} [FloatOps F] [Named F]

/-- Eight equal rows `(1 + scale) · (1 / s)`. -/
def gainRows (s : Elt F .f32) (x : Vec F S1x1x1x3072 .f32) : FVec F S1x8x3072 .f32 :=
  shapeCast S1x8x3072 (broadcastTo S8x3072 (shapeCast S1x3072
    (mulf (addf (broadcast S1x3072 (Scalar.ofBits .f32 0x3F800000#32)) (shapeCast S1x3072 x shapeCasts_S1x1x1x3072_S1x3072))
      (broadcast S1x3072 (Scalar.divf (Scalar.ofBits .f32 0x3F800000#32) s)))
    shapeCasts_S1x3072_S1x3072) broadcasts_S1x3072_S8x3072) shapeCasts_S8x3072_S1x8x3072

/-- Eight equal rows `shift · (1 / s)`. -/
def offsetRows (s : Elt F .f32) (x : Vec F S1x1x1x3072 .f32) : FVec F S1x8x3072 .f32 :=
  shapeCast S1x8x3072 (broadcastTo S8x3072 (shapeCast S1x3072
    (mulf (shapeCast S1x3072 x shapeCasts_S1x1x1x3072_S1x3072)
      (broadcast S1x3072 (Scalar.divf (Scalar.ofBits .f32 0x3F800000#32) s)))
    shapeCasts_S1x3072_S1x3072) broadcasts_S1x3072_S8x3072) shapeCasts_S8x3072_S1x8x3072

/-- A half of the shifts or scales lies inside its block. -/
theorem vecInb (h : Fin 2) : ∀ a, (![h.val, 0, 0, 0] : Fin 4 → ℕ) a + S1x1x1x3072.size a ≤ S2x1x1x3072.size a := by
  intro a; fin_cases a <;> simp [S1x1x1x3072, S2x1x1x3072] <;> omega

/-- A half of the gains or offsets lies inside its scratch. -/
theorem coefInb (h : Fin 2) : ∀ a, (![h.val, 0, 0] : Fin 3 → ℕ) a + S1x8x3072.size a ≤ S2x8x3072.size a := by
  intro a; fin_cases a <;> simp [S1x8x3072, S2x8x3072] <;> omega

/-- Half `h` of a scale or shift. -/
def vecIn (arg8 : Memref sig .tc .vmem S2x1x1x3072 .f32) (X : BufTy.Contents (Elt F) arg8.view.ty) (h : Fin 2) : Vec F S1x1x1x3072 .f32 :=
  View.readAt (Elt F) arg8.view (Rect.unit (s := S2x1x1x3072) ![h.val, 0, 0, 0] S1x1x1x3072.size (vecInb h)).toLoadRect X

/-- The number at `off` of a vector of sixteen. -/
def num16 (arg2 : Memref sig .tc .smem S16 .f32) (X : BufTy.Contents (Elt F) arg2.view.ty) (off : Fin 1 → ℕ) (inb : ∀ a, off a + S1.size a ≤ S16.size a) : Elt F .f32 :=
  View.readAt (Elt F) arg2.view (Rect.unit (s := S16) off S1.size inb).toLoadRect X (Shape.Idx.first (numel1_S1 ▸ Nat.one_pos))

/-- The number at `off` of a vector of eight. -/
def num8 (arg3 : Memref sig .tc .smem S8 .f32) (X : BufTy.Contents (Elt F) arg3.view.ty) (off : Fin 1 → ℕ) (inb : ∀ a, off a + S1.size a ≤ S8.size a) : Elt F .f32 :=
  View.readAt (Elt F) arg3.view (Rect.unit (s := S8) off S1.size inb).toLoadRect X (Shape.Idx.first (numel1_S1 ▸ Nat.one_pos))

/-- The stores of the gain rows of both halves, the last first. -/
def gainL (s0 s1 : Elt F .f32) (x0 x1 : Vec F S1x1x1x3072 .f32) : List (View.Piece (Elt F) S2x8x3072 .f32) :=
  [⟨Rect.unit (s := S2x8x3072) ![((1 : Fin 2)).val, 0, 0] S1x8x3072.size (coefInb 1), gainRows s1 x1⟩,
   ⟨Rect.unit (s := S2x8x3072) ![((0 : Fin 2)).val, 0, 0] S1x8x3072.size (coefInb 0), gainRows s0 x0⟩]

/-- The stores of the offset rows of both halves, the last first. -/
def offsetL (s0 s1 : Elt F .f32) (x0 x1 : Vec F S1x1x1x3072 .f32) : List (View.Piece (Elt F) S2x8x3072 .f32) :=
  [⟨Rect.unit (s := S2x8x3072) ![((1 : Fin 2)).val, 0, 0] S1x8x3072.size (coefInb 1), offsetRows s1 x1⟩,
   ⟨Rect.unit (s := S2x8x3072) ![((0 : Fin 2)).val, 0, 0] S1x8x3072.size (coefInb 0), offsetRows s0 x0⟩]

/-- The static scale that a grid point reads lies inside the array of scales. -/
theorem offA_inb (i : grid0.Coords) (hc0 : cond0_0 i) (r : Fin 2) : ∀ a, (k0_off1 i (BitVec.ofNat 32 (8 * r.val))) a + S1.size a ≤ S16.size a := by
  rw [k0_off1_eq]
  have := (i 0).isLt
  intro a; fin_cases a; simp [S1, S16]; simp [grid0] at this; omega

/-- The stores of the loop where the gain and offset rows are recomputed. -/
abbrev loopA (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) :=
  (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg6.unread x4) (arg17.view.writes (Elt F) arg17.view.junk (gainL (num16 arg2 (harg2.unread x0) (k0_off1 i 0#32) (offA_inb i hc0 0)) (num16 arg2 (harg2.unread x0) (k0_off1 i 8#32) (offA_inb i hc0 1)) (vecIn arg8 (harg8.unread x6) 0) (vecIn arg8 (harg8.unread x6) 1))) (arg18.view.writes (Elt F) arg18.view.junk (offsetL (num16 arg2 (harg2.unread x0) (k0_off1 i 0#32) (offA_inb i hc0 0)) (num16 arg2 (harg2.unread x0) (k0_off1 i 8#32) (offA_inb i hc0 1)) (vecIn arg7 (harg7.unread x5) 0) (vecIn arg7 (harg7.unread x5) 1))) (Scf.trips k0_t1_loop.lb k0_t1_loop.ub k0_t1_loop.st))

/-- The stores of the loop where the gain and offset rows are kept. -/
abbrev loopB (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) (xs0 xs1 : Vec F S2x8x3072 .f32) :=
  (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg6.unread x4) (harg17.unread xs0) (harg18.unread xs1) (Scf.trips k0_t1_loop.lb k0_t1_loop.ub k0_t1_loop.st))

/-- The stores of codes, recomputing the rows. -/
theorem codes_A (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.1
      = (loopA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1 := rfl

/-- The stores of magnitudes, recomputing the rows. -/
theorem amax_A (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.1
      = amaxL (num16 arg2 (harg2.unread x0) (k0_off52 i 0#32) (k0_off52_inb i 0)) (num16 arg2 (harg2.unread x0) (k0_off52 i 8#32) (k0_off52_inb i 1)) (rowsC arg19 (loopA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2) := rfl

/-- The stores of the new latent, recomputing the rows. -/
theorem lat_A (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1
      = latL (Scalar.subf (num8 arg5 (harg5.unread x3) (k0_off53 i) (k0_off53_inb i)) (num8 arg4 (harg4.unread x2) (k0_off53 i) (k0_off53_inb i))) (fun g => chan arg20 (imgC arg15 (loopA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1 (View.readAt (Elt F) arg9.view (Rect.unit (s := S64x3072) ![0, 0] S64x3072.size inb_S64x3072_S64x3072_0_0).toLoadRect (harg9.unread x7)) (View.readAt (Elt F) arg10.view (Rect.unit (s := S64x1) ![0, 0] S64x1.size inb_S64x1_S64x1_0_0).toLoadRect (harg10.unread x8)) (View.readAt (Elt F) arg11.view (Rect.unit (s := S64x1) ![0, 0] S64x1.size inb_S64x1_S64x1_0_0).toLoadRect (harg11.unread x9)) (num16 arg2 (harg2.unread x0) (k0_off52 i 0#32) (k0_off52_inb i 0)) (num16 arg2 (harg2.unread x0) (k0_off52 i 8#32) (k0_off52_inb i 1)) (num8 arg3 (harg3.unread x1) (k0_off53 i) (k0_off53_inb i))) g) (latIn arg12 (harg12.unread x10)) := rfl

/-- The stores of the velocity, recomputing the rows. -/
theorem vel_A (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.1
      = velL (fun g => chan arg20 (imgC arg15 (loopA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1 (View.readAt (Elt F) arg9.view (Rect.unit (s := S64x3072) ![0, 0] S64x3072.size inb_S64x3072_S64x3072_0_0).toLoadRect (harg9.unread x7)) (View.readAt (Elt F) arg10.view (Rect.unit (s := S64x1) ![0, 0] S64x1.size inb_S64x1_S64x1_0_0).toLoadRect (harg10.unread x8)) (View.readAt (Elt F) arg11.view (Rect.unit (s := S64x1) ![0, 0] S64x1.size inb_S64x1_S64x1_0_0).toLoadRect (harg11.unread x9)) (num16 arg2 (harg2.unread x0) (k0_off52 i 0#32) (k0_off52_inb i 0)) (num16 arg2 (harg2.unread x0) (k0_off52 i 8#32) (k0_off52_inb i 1)) (num8 arg3 (harg3.unread x1) (k0_off53 i) (k0_off53_inb i))) g) := rfl

/-- The stores of the gain rows. -/
theorem gain_A (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.1
      = (gainL (num16 arg2 (harg2.unread x0) (k0_off1 i 0#32) (offA_inb i hc0 0)) (num16 arg2 (harg2.unread x0) (k0_off1 i 8#32) (offA_inb i hc0 1)) (vecIn arg8 (harg8.unread x6) 0) (vecIn arg8 (harg8.unread x6) 1)) := rfl

/-- The stores of the offset rows. -/
theorem offset_A (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) :
    (kernelRun0_A (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2.2.2.2.2.1
      = (offsetL (num16 arg2 (harg2.unread x0) (k0_off1 i 0#32) (offA_inb i hc0 0)) (num16 arg2 (harg2.unread x0) (k0_off1 i 8#32) (offA_inb i hc0 1)) (vecIn arg7 (harg7.unread x5) 0) (vecIn arg7 (harg7.unread x5) 1)) := rfl

/-- The stores of codes, keeping the rows. -/
theorem codes_B (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) (xs0 xs1 : Vec F S2x8x3072 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1).2.2.1
      = (loopB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xs0 xs1).1 := rfl

/-- The stores of magnitudes, keeping the rows. -/
theorem amax_B (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) (xs0 xs1 : Vec F S2x8x3072 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1).2.2.2.1
      = amaxL (num16 arg2 (harg2.unread x0) (k0_off52 i 0#32) (k0_off52_inb i 0)) (num16 arg2 (harg2.unread x0) (k0_off52 i 8#32) (k0_off52_inb i 1)) (rowsC arg19 (loopB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xs0 xs1).2) := rfl

/-- The stores of the new latent, keeping the rows. -/
theorem lat_B (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) (xs0 xs1 : Vec F S2x8x3072 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1).1
      = latL (Scalar.subf (num8 arg5 (harg5.unread x3) (k0_off53 i) (k0_off53_inb i)) (num8 arg4 (harg4.unread x2) (k0_off53 i) (k0_off53_inb i))) (fun g => chan arg20 (imgC arg15 (loopB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xs0 xs1).1 (View.readAt (Elt F) arg9.view (Rect.unit (s := S64x3072) ![0, 0] S64x3072.size inb_S64x3072_S64x3072_0_0).toLoadRect (harg9.unread x7)) (View.readAt (Elt F) arg10.view (Rect.unit (s := S64x1) ![0, 0] S64x1.size inb_S64x1_S64x1_0_0).toLoadRect (harg10.unread x8)) (View.readAt (Elt F) arg11.view (Rect.unit (s := S64x1) ![0, 0] S64x1.size inb_S64x1_S64x1_0_0).toLoadRect (harg11.unread x9)) (num16 arg2 (harg2.unread x0) (k0_off52 i 0#32) (k0_off52_inb i 0)) (num16 arg2 (harg2.unread x0) (k0_off52 i 8#32) (k0_off52_inb i 1)) (num8 arg3 (harg3.unread x1) (k0_off53 i) (k0_off53_inb i))) g) (latIn arg12 (harg12.unread x10)) := rfl

/-- The stores of the velocity, keeping the rows. -/
theorem vel_B (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec F S16 .f32) (x1 x2 x3 : Vec F S8 .f32) (x4 : Vec F S2x1x512x3072 .bf16) (x5 x6 : Vec F S2x1x1x3072 .f32) (x7 : Vec F S64x3072 .fp8e4m3) (x8 x9 : Vec F S64x1 .f32) (x10 : Vec F S1x16x16x128 .f32) (xs0 xs1 : Vec F S2x8x3072 .f32) :
    (kernelRun0_B (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1).2.1
      = velL (fun g => chan arg20 (imgC arg15 (loopB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xs0 xs1).1 (View.readAt (Elt F) arg9.view (Rect.unit (s := S64x3072) ![0, 0] S64x3072.size inb_S64x3072_S64x3072_0_0).toLoadRect (harg9.unread x7)) (View.readAt (Elt F) arg10.view (Rect.unit (s := S64x1) ![0, 0] S64x1.size inb_S64x1_S64x1_0_0).toLoadRect (harg10.unread x8)) (View.readAt (Elt F) arg11.view (Rect.unit (s := S64x1) ![0, 0] S64x1.size inb_S64x1_S64x1_0_0).toLoadRect (harg11.unread x9)) (num16 arg2 (harg2.unread x0) (k0_off52 i 0#32) (k0_off52_inb i 0)) (num16 arg2 (harg2.unread x0) (k0_off52 i 8#32) (k0_off52_inb i 1)) (num8 arg3 (harg3.unread x1) (k0_off53 i) (k0_off53_inb i))) g) := rfl

end Words

end Cert.Proof.Case
-- ==== Proof.TripWords.lean ====
/-
  What one trip of the kernel's loop loads and stores, word by word: the loads are the block's tiles, the mean and deviation words
  are those of the trip's rows.
-/
module

public import proofs.«01_k».proof.Proof.Gen.KernelIdeal.Loops
public import proofs.«01_k».proof.Proof.Block

@[expose] public section

set_option maxRecDepth 100000
set_option maxHeartbeats 1000000

noncomputable section

namespace Cert.Proof.Trip

open Cert.KernelIdeal Cert.KernelIdeal.Gen Idealize.ShloMosaic Idealize.ShloMosaic.TcCoe
open Cert.Proof.RowMath Cert.Proof.Tiles Cert.Proof.Block

variable {F : FTy → Type} [FloatOps F] [Named F]
variable (arg6 : Memref sig .tc .vmem S2x1x512x3072 .bf16) (arg17 arg18 : Memref sig .tc .vmem S2x8x3072 .f32)
  (X6 : BufTy.Contents (Elt F) arg6.view.ty) (X17 : BufTy.Contents (Elt F) arg17.view.ty) (X18 : BufTy.Contents (Elt F) arg18.view.ty)
  (k : Fin k0_t1_loop.trips)

/-- Load 0 of half 0 is that tile of the block. -/
theorem ld_0_0 : View.readAt (Elt F) arg6.view (Rect.unit (s := S2x1x512x3072) (k0_off2 k) S1x1x32x128.size (k0_off2_inb k)).toLoadRect X6 = xtile arg6 X6 0 k 0 := readAt_off _ (k0_off2_eq k) _ _ X6
/-- Load 1 of half 0 is that tile of the block. -/
theorem ld_0_1 : View.readAt (Elt F) arg6.view (Rect.unit (s := S2x1x512x3072) (k0_off3 k) S1x1x32x128.size (k0_off3_inb k)).toLoadRect X6 = xtile arg6 X6 0 k 1 := readAt_off _ (k0_off3_eq k) _ _ X6
/-- Load 2 of half 0 is that tile of the block. -/
theorem ld_0_2 : View.readAt (Elt F) arg6.view (Rect.unit (s := S2x1x512x3072) (k0_off4 k) S1x1x32x128.size (k0_off4_inb k)).toLoadRect X6 = xtile arg6 X6 0 k 2 := readAt_off _ (k0_off4_eq k) _ _ X6
/-- Load 3 of half 0 is that tile of the block. -/
theorem ld_0_3 : View.readAt (Elt F) arg6.view (Rect.unit (s := S2x1x512x3072) (k0_off5 k) S1x1x32x128.size (k0_off5_inb k)).toLoadRect X6 = xtile arg6 X6 0 k 3 := readAt_off _ (k0_off5_eq k) _ _ X6
/-- Load 4 of half 0 is that tile of the block. -/
theorem ld_0_4 : View.readAt (Elt F) arg6.view (Rect.unit (s := S2x1x512x3072) (k0_off6 k) S1x1x32x128.size (k0_off6_inb k)).toLoadRect X6 = xtile arg6 X6 0 k 4 := readAt_off _ (k0_off6_eq k) _ _ X6
/-- Load 5 of half 0 is that tile of the block. -/
theorem ld_0_5 : View.readAt (Elt F) arg6.view (Rect.unit (s := S2x1x512x3072) (k0_off7 k) S1x1x32x128.size (k0_off7_inb k)).toLoadRect X6 = xtile arg6 X6 0 k 5 := readAt_off _ (k0_off7_eq k) _ _ X6
/-- Load 6 of half 0 is that tile of the block. -/
theorem ld_0_6 : View.readAt (Elt F) arg6.view (Rect.unit (s := S2x1x512x3072) (k0_off8 k) S1x1x32x128.size (k0_off8_inb k)).toLoadRect X6 = xtile arg6 X6 0 k 6 := readAt_off _ (k0_off8_eq k) _ _ X6
/-- Load 7 of half 0 is that tile of the block. -/
theorem ld_0_7 : View.readAt (Elt F) arg6.view (Rect.unit (s := S2x1x512x3072) (k0_off9 k) S1x1x32x128.size (k0_off9_inb k)).toLoadRect X6 = xtile arg6 X6 0 k 7 := readAt_off _ (k0_off9_eq k) _ _ X6
/-- Load 8 of half 0 is that tile of the block. -/
theorem ld_0_8 : View.readAt (Elt F) arg6.view (Rect.unit (s := S2x1x512x3072) (k0_off10 k) S1x1x32x128.size (k0_off10_inb k)).toLoadRect X6 = xtile arg6 X6 0 k 8 := readAt_off _ (k0_off10_eq k) _ _ X6
/-- Load 9 of half 0 is that tile of the block. -/
theorem ld_0_9 : View.readAt (Elt F) arg6.view (Rect.unit (s := S2x1x512x3072) (k0_off11 k) S1x1x32x128.size (k0_off11_inb k)).toLoadRect X6 = xtile arg6 X6 0 k 9 := readAt_off _ (k0_off11_eq k) _ _ X6
/-- Load 10 of half 0 is that tile of the block. -/
theorem ld_0_10 : View.readAt (Elt F) arg6.view (Rect.unit (s := S2x1x512x3072) (k0_off12 k) S1x1x32x128.size (k0_off12_inb k)).toLoadRect X6 = xtile arg6 X6 0 k 10 := readAt_off _ (k0_off12_eq k) _ _ X6
/-- Load 11 of half 0 is that tile of the block. -/
theorem ld_0_11 : View.readAt (Elt F) arg6.view (Rect.unit (s := S2x1x512x3072) (k0_off13 k) S1x1x32x128.size (k0_off13_inb k)).toLoadRect X6 = xtile arg6 X6 0 k 11 := readAt_off _ (k0_off13_eq k) _ _ X6
/-- Load 12 of half 0 is that tile of the block. -/
theorem ld_0_12 : View.readAt (Elt F) arg6.view (Rect.unit (s := S2x1x512x3072) (k0_off14 k) S1x1x32x128.size (k0_off14_inb k)).toLoadRect X6 = xtile arg6 X6 0 k 12 := readAt_off _ (k0_off14_eq k) _ _ X6
/-- Load 13 of half 0 is that tile of the block. -/
theorem ld_0_13 : View.readAt (Elt F) arg6.view (Rect.unit (s := S2x1x512x3072) (k0_off15 k) S1x1x32x128.size (k0_off15_inb k)).toLoadRect X6 = xtile arg6 X6 0 k 13 := readAt_off _ (k0_off15_eq k) _ _ X6
/-- Load 14 of half 0 is that tile of the block. -/
theorem ld_0_14 : View.readAt (Elt F) arg6.view (Rect.unit (s := S2x1x512x3072) (k0_off16 k) S1x1x32x128.size (k0_off16_inb k)).toLoadRect X6 = xtile arg6 X6 0 k 14 := readAt_off _ (k0_off16_eq k) _ _ X6
/-- Load 15 of half 0 is that tile of the block. -/
theorem ld_0_15 : View.readAt (Elt F) arg6.view (Rect.unit (s := S2x1x512x3072) (k0_off17 k) S1x1x32x128.size (k0_off17_inb k)).toLoadRect X6 = xtile arg6 X6 0 k 15 := readAt_off _ (k0_off17_eq k) _ _ X6
/-- Load 16 of half 0 is that tile of the block. -/
theorem ld_0_16 : View.readAt (Elt F) arg6.view (Rect.unit (s := S2x1x512x3072) (k0_off18 k) S1x1x32x128.size (k0_off18_inb k)).toLoadRect X6 = xtile arg6 X6 0 k 16 := readAt_off _ (k0_off18_eq k) _ _ X6
/-- Load 17 of half 0 is that tile of the block. -/
theorem ld_0_17 : View.readAt (Elt F) arg6.view (Rect.unit (s := S2x1x512x3072) (k0_off19 k) S1x1x32x128.size (k0_off19_inb k)).toLoadRect X6 = xtile arg6 X6 0 k 17 := readAt_off _ (k0_off19_eq k) _ _ X6
/-- Load 18 of half 0 is that tile of the block. -/
theorem ld_0_18 : View.readAt (Elt F) arg6.view (Rect.unit (s := S2x1x512x3072) (k0_off20 k) S1x1x32x128.size (k0_off20_inb k)).toLoadRect X6 = xtile arg6 X6 0 k 18 := readAt_off _ (k0_off20_eq k) _ _ X6
/-- Load 19 of half 0 is that tile of the block. -/
theorem ld_0_19 : View.readAt (Elt F) arg6.view (Rect.unit (s := S2x1x512x3072) (k0_off21 k) S1x1x32x128.size (k0_off21_inb k)).toLoadRect X6 = xtile arg6 X6 0 k 19 := readAt_off _ (k0_off21_eq k) _ _ X6
/-- Load 20 of half 0 is that tile of the block. -/
theorem ld_0_20 : View.readAt (Elt F) arg6.view (Rect.unit (s := S2x1x512x3072) (k0_off22 k) S1x1x32x128.size (k0_off22_inb k)).toLoadRect X6 = xtile arg6 X6 0 k 20 := readAt_off _ (k0_off22_eq k) _ _ X6
/-- Load 21 of half 0 is that tile of the block. -/
theorem ld_0_21 : View.readAt (Elt F) arg6.view (Rect.unit (s := S2x1x512x3072) (k0_off23 k) S1x1x32x128.size (k0_off23_inb k)).toLoadRect X6 = xtile arg6 X6 0 k 21 := readAt_off _ (k0_off23_eq k) _ _ X6
/-- Load 22 of half 0 is that tile of the block. -/
theorem ld_0_22 : View.readAt (Elt F) arg6.view (Rect.unit (s := S2x1x512x3072) (k0_off24 k) S1x1x32x128.size (k0_off24_inb k)).toLoadRect X6 = xtile arg6 X6 0 k 22 := readAt_off _ (k0_off24_eq k) _ _ X6
/-- Load 23 of half 0 is that tile of the block. -/
theorem ld_0_23 : View.readAt (Elt F) arg6.view (Rect.unit (s := S2x1x512x3072) (k0_off25 k) S1x1x32x128.size (k0_off25_inb k)).toLoadRect X6 = xtile arg6 X6 0 k 23 := readAt_off _ (k0_off25_eq k) _ _ X6
/-- Load 0 of half 1 is that tile of the block. -/
theorem ld_1_0 : View.readAt (Elt F) arg6.view (Rect.unit (s := S2x1x512x3072) (k0_off27 k) S1x1x32x128.size (k0_off27_inb k)).toLoadRect X6 = xtile arg6 X6 1 k 0 := readAt_off _ (k0_off27_eq k) _ _ X6
/-- Load 1 of half 1 is that tile of the block. -/
theorem ld_1_1 : View.readAt (Elt F) arg6.view (Rect.unit (s := S2x1x512x3072) (k0_off28 k) S1x1x32x128.size (k0_off28_inb k)).toLoadRect X6 = xtile arg6 X6 1 k 1 := readAt_off _ (k0_off28_eq k) _ _ X6
/-- Load 2 of half 1 is that tile of the block. -/
theorem ld_1_2 : View.readAt (Elt F) arg6.view (Rect.unit (s := S2x1x512x3072) (k0_off29 k) S1x1x32x128.size (k0_off29_inb k)).toLoadRect X6 = xtile arg6 X6 1 k 2 := readAt_off _ (k0_off29_eq k) _ _ X6
/-- Load 3 of half 1 is that tile of the block. -/
theorem ld_1_3 : View.readAt (Elt F) arg6.view (Rect.unit (s := S2x1x512x3072) (k0_off30 k) S1x1x32x128.size (k0_off30_inb k)).toLoadRect X6 = xtile arg6 X6 1 k 3 := readAt_off _ (k0_off30_eq k) _ _ X6
/-- Load 4 of half 1 is that tile of the block. -/
theorem ld_1_4 : View.readAt (Elt F) arg6.view (Rect.unit (s := S2x1x512x3072) (k0_off31 k) S1x1x32x128.size (k0_off31_inb k)).toLoadRect X6 = xtile arg6 X6 1 k 4 := readAt_off _ (k0_off31_eq k) _ _ X6
/-- Load 5 of half 1 is that tile of the block. -/
theorem ld_1_5 : View.readAt (Elt F) arg6.view (Rect.unit (s := S2x1x512x3072) (k0_off32 k) S1x1x32x128.size (k0_off32_inb k)).toLoadRect X6 = xtile arg6 X6 1 k 5 := readAt_off _ (k0_off32_eq k) _ _ X6
/-- Load 6 of half 1 is that tile of the block. -/
theorem ld_1_6 : View.readAt (Elt F) arg6.view (Rect.unit (s := S2x1x512x3072) (k0_off33 k) S1x1x32x128.size (k0_off33_inb k)).toLoadRect X6 = xtile arg6 X6 1 k 6 := readAt_off _ (k0_off33_eq k) _ _ X6
/-- Load 7 of half 1 is that tile of the block. -/
theorem ld_1_7 : View.readAt (Elt F) arg6.view (Rect.unit (s := S2x1x512x3072) (k0_off34 k) S1x1x32x128.size (k0_off34_inb k)).toLoadRect X6 = xtile arg6 X6 1 k 7 := readAt_off _ (k0_off34_eq k) _ _ X6
/-- Load 8 of half 1 is that tile of the block. -/
theorem ld_1_8 : View.readAt (Elt F) arg6.view (Rect.unit (s := S2x1x512x3072) (k0_off35 k) S1x1x32x128.size (k0_off35_inb k)).toLoadRect X6 = xtile arg6 X6 1 k 8 := readAt_off _ (k0_off35_eq k) _ _ X6
/-- Load 9 of half 1 is that tile of the block. -/
theorem ld_1_9 : View.readAt (Elt F) arg6.view (Rect.unit (s := S2x1x512x3072) (k0_off36 k) S1x1x32x128.size (k0_off36_inb k)).toLoadRect X6 = xtile arg6 X6 1 k 9 := readAt_off _ (k0_off36_eq k) _ _ X6
/-- Load 10 of half 1 is that tile of the block. -/
theorem ld_1_10 : View.readAt (Elt F) arg6.view (Rect.unit (s := S2x1x512x3072) (k0_off37 k) S1x1x32x128.size (k0_off37_inb k)).toLoadRect X6 = xtile arg6 X6 1 k 10 := readAt_off _ (k0_off37_eq k) _ _ X6
/-- Load 11 of half 1 is that tile of the block. -/
theorem ld_1_11 : View.readAt (Elt F) arg6.view (Rect.unit (s := S2x1x512x3072) (k0_off38 k) S1x1x32x128.size (k0_off38_inb k)).toLoadRect X6 = xtile arg6 X6 1 k 11 := readAt_off _ (k0_off38_eq k) _ _ X6
/-- Load 12 of half 1 is that tile of the block. -/
theorem ld_1_12 : View.readAt (Elt F) arg6.view (Rect.unit (s := S2x1x512x3072) (k0_off39 k) S1x1x32x128.size (k0_off39_inb k)).toLoadRect X6 = xtile arg6 X6 1 k 12 := readAt_off _ (k0_off39_eq k) _ _ X6
/-- Load 13 of half 1 is that tile of the block. -/
theorem ld_1_13 : View.readAt (Elt F) arg6.view (Rect.unit (s := S2x1x512x3072) (k0_off40 k) S1x1x32x128.size (k0_off40_inb k)).toLoadRect X6 = xtile arg6 X6 1 k 13 := readAt_off _ (k0_off40_eq k) _ _ X6
/-- Load 14 of half 1 is that tile of the block. -/
theorem ld_1_14 : View.readAt (Elt F) arg6.view (Rect.unit (s := S2x1x512x3072) (k0_off41 k) S1x1x32x128.size (k0_off41_inb k)).toLoadRect X6 = xtile arg6 X6 1 k 14 := readAt_off _ (k0_off41_eq k) _ _ X6
/-- Load 15 of half 1 is that tile of the block. -/
theorem ld_1_15 : View.readAt (Elt F) arg6.view (Rect.unit (s := S2x1x512x3072) (k0_off42 k) S1x1x32x128.size (k0_off42_inb k)).toLoadRect X6 = xtile arg6 X6 1 k 15 := readAt_off _ (k0_off42_eq k) _ _ X6
/-- Load 16 of half 1 is that tile of the block. -/
theorem ld_1_16 : View.readAt (Elt F) arg6.view (Rect.unit (s := S2x1x512x3072) (k0_off43 k) S1x1x32x128.size (k0_off43_inb k)).toLoadRect X6 = xtile arg6 X6 1 k 16 := readAt_off _ (k0_off43_eq k) _ _ X6
/-- Load 17 of half 1 is that tile of the block. -/
theorem ld_1_17 : View.readAt (Elt F) arg6.view (Rect.unit (s := S2x1x512x3072) (k0_off44 k) S1x1x32x128.size (k0_off44_inb k)).toLoadRect X6 = xtile arg6 X6 1 k 17 := readAt_off _ (k0_off44_eq k) _ _ X6
/-- Load 18 of half 1 is that tile of the block. -/
theorem ld_1_18 : View.readAt (Elt F) arg6.view (Rect.unit (s := S2x1x512x3072) (k0_off45 k) S1x1x32x128.size (k0_off45_inb k)).toLoadRect X6 = xtile arg6 X6 1 k 18 := readAt_off _ (k0_off45_eq k) _ _ X6
/-- Load 19 of half 1 is that tile of the block. -/
theorem ld_1_19 : View.readAt (Elt F) arg6.view (Rect.unit (s := S2x1x512x3072) (k0_off46 k) S1x1x32x128.size (k0_off46_inb k)).toLoadRect X6 = xtile arg6 X6 1 k 19 := readAt_off _ (k0_off46_eq k) _ _ X6
/-- Load 20 of half 1 is that tile of the block. -/
theorem ld_1_20 : View.readAt (Elt F) arg6.view (Rect.unit (s := S2x1x512x3072) (k0_off47 k) S1x1x32x128.size (k0_off47_inb k)).toLoadRect X6 = xtile arg6 X6 1 k 20 := readAt_off _ (k0_off47_eq k) _ _ X6
/-- Load 21 of half 1 is that tile of the block. -/
theorem ld_1_21 : View.readAt (Elt F) arg6.view (Rect.unit (s := S2x1x512x3072) (k0_off48 k) S1x1x32x128.size (k0_off48_inb k)).toLoadRect X6 = xtile arg6 X6 1 k 21 := readAt_off _ (k0_off48_eq k) _ _ X6
/-- Load 22 of half 1 is that tile of the block. -/
theorem ld_1_22 : View.readAt (Elt F) arg6.view (Rect.unit (s := S2x1x512x3072) (k0_off49 k) S1x1x32x128.size (k0_off49_inb k)).toLoadRect X6 = xtile arg6 X6 1 k 22 := readAt_off _ (k0_off49_eq k) _ _ X6
/-- Load 23 of half 1 is that tile of the block. -/
theorem ld_1_23 : View.readAt (Elt F) arg6.view (Rect.unit (s := S2x1x512x3072) (k0_off50 k) S1x1x32x128.size (k0_off50_inb k)).toLoadRect X6 = xtile arg6 X6 1 k 23 := readAt_off _ (k0_off50_eq k) _ _ X6

/-- The word of the means of half 0. -/
theorem mu_0 : trip_k0_t1.sl.r arg6 X6 k = muT (sumT arg6 X6 0 k) := by
  rw [sumT, ← ld_0_0, ← ld_0_1, ← ld_0_2, ← ld_0_3, ← ld_0_4, ← ld_0_5, ← ld_0_6, ← ld_0_7, ← ld_0_8, ← ld_0_9, ← ld_0_10, ← ld_0_11, ← ld_0_12, ← ld_0_13, ← ld_0_14, ← ld_0_15, ← ld_0_16, ← ld_0_17, ← ld_0_18, ← ld_0_19, ← ld_0_20, ← ld_0_21, ← ld_0_22, ← ld_0_23]
  rfl

/-- The word of the inverse standard deviations of half 0. -/
theorem rstd_0 : trip_k0_t1.sl.r_1 arg6 X6 k = rstdT (sumT arg6 X6 0 k) (sqT arg6 X6 0 k) := by
  rw [sumT, sqT, ← ld_0_0, ← ld_0_1, ← ld_0_2, ← ld_0_3, ← ld_0_4, ← ld_0_5, ← ld_0_6, ← ld_0_7, ← ld_0_8, ← ld_0_9, ← ld_0_10, ← ld_0_11, ← ld_0_12, ← ld_0_13, ← ld_0_14, ← ld_0_15, ← ld_0_16, ← ld_0_17, ← ld_0_18, ← ld_0_19, ← ld_0_20, ← ld_0_21, ← ld_0_22, ← ld_0_23]
  rfl

/-- The word of the means of half 1. -/
theorem mu_1 : trip_k0_t1.sl.v2366 arg6 X6 k = muT (sumT arg6 X6 1 k) := by
  rw [sumT, ← ld_1_0, ← ld_1_1, ← ld_1_2, ← ld_1_3, ← ld_1_4, ← ld_1_5, ← ld_1_6, ← ld_1_7, ← ld_1_8, ← ld_1_9, ← ld_1_10, ← ld_1_11, ← ld_1_12, ← ld_1_13, ← ld_1_14, ← ld_1_15, ← ld_1_16, ← ld_1_17, ← ld_1_18, ← ld_1_19, ← ld_1_20, ← ld_1_21, ← ld_1_22, ← ld_1_23]
  rfl

/-- The word of the inverse standard deviations of half 1. -/
theorem rstd_1 : trip_k0_t1.sl.v2368 arg6 X6 k = rstdT (sumT arg6 X6 1 k) (sqT arg6 X6 1 k) := by
  rw [sumT, sqT, ← ld_1_0, ← ld_1_1, ← ld_1_2, ← ld_1_3, ← ld_1_4, ← ld_1_5, ← ld_1_6, ← ld_1_7, ← ld_1_8, ← ld_1_9, ← ld_1_10, ← ld_1_11, ← ld_1_12, ← ld_1_13, ← ld_1_14, ← ld_1_15, ← ld_1_16, ← ld_1_17, ← ld_1_18, ← ld_1_19, ← ld_1_20, ← ld_1_21, ← ld_1_22, ← ld_1_23]
  rfl

end Cert.Proof.Trip

end
-- ==== Proof.TripStores.lean ====
/-
  What one trip of the kernel's loop stores: 24 clipped tiles and one tile of running maxima per half.
-/
module

public import proofs.«01_k».proof.Proof.Gen.KernelIdeal.Loops
public import proofs.«01_k».proof.Proof.TripWords

@[expose] public section

set_option maxRecDepth 100000
set_option maxHeartbeats 1000000

noncomputable section

namespace Cert.Proof.Trip

open Cert.KernelIdeal Cert.KernelIdeal.Gen Idealize.ShloMosaic Idealize.ShloMosaic.TcCoe
open Cert.Proof.RowMath Cert.Proof.Tiles Cert.Proof.Block

variable {F : FTy → Type} [FloatOps F] [Named F]
variable (arg6 : Memref sig .tc .vmem S2x1x512x3072 .bf16) (arg17 arg18 : Memref sig .tc .vmem S2x8x3072 .f32)
  (X6 : BufTy.Contents (Elt F) arg6.view.ty) (X17 : BufTy.Contents (Elt F) arg17.view.ty) (X18 : BufTy.Contents (Elt F) arg18.view.ty)
  (k : Fin k0_t1_loop.trips)

/-- The store of tile 0 of half 0. -/
theorem code_0_0 : trip_k0_t1.sl.v1598 arg6 arg17 arg18 X6 X17 X18 k = clipT (qtile arg6 arg17 arg18 X6 X17 X18 0 k 0) := by
  rw [qtile, ← ld_0_0, ← mu_0, ← rstd_0]
  rfl

/-- The store of tile 1 of half 0. -/
theorem code_0_1 : trip_k0_t1.sl.v1623 arg6 arg17 arg18 X6 X17 X18 k = clipT (qtile arg6 arg17 arg18 X6 X17 X18 0 k 1) := by
  rw [qtile, ← ld_0_1, ← mu_0, ← rstd_0]
  rfl

/-- The store of tile 2 of half 0. -/
theorem code_0_2 : trip_k0_t1.sl.v1648 arg6 arg17 arg18 X6 X17 X18 k = clipT (qtile arg6 arg17 arg18 X6 X17 X18 0 k 2) := by
  rw [qtile, ← ld_0_2, ← mu_0, ← rstd_0]
  rfl

/-- The store of tile 3 of half 0. -/
theorem code_0_3 : trip_k0_t1.sl.v1673 arg6 arg17 arg18 X6 X17 X18 k = clipT (qtile arg6 arg17 arg18 X6 X17 X18 0 k 3) := by
  rw [qtile, ← ld_0_3, ← mu_0, ← rstd_0]
  rfl

/-- The store of tile 4 of half 0. -/
theorem code_0_4 : trip_k0_t1.sl.v1698 arg6 arg17 arg18 X6 X17 X18 k = clipT (qtile arg6 arg17 arg18 X6 X17 X18 0 k 4) := by
  rw [qtile, ← ld_0_4, ← mu_0, ← rstd_0]
  rfl

/-- The store of tile 5 of half 0. -/
theorem code_0_5 : trip_k0_t1.sl.v1723 arg6 arg17 arg18 X6 X17 X18 k = clipT (qtile arg6 arg17 arg18 X6 X17 X18 0 k 5) := by
  rw [qtile, ← ld_0_5, ← mu_0, ← rstd_0]
  rfl

/-- The store of tile 6 of half 0. -/
theorem code_0_6 : trip_k0_t1.sl.v1748 arg6 arg17 arg18 X6 X17 X18 k = clipT (qtile arg6 arg17 arg18 X6 X17 X18 0 k 6) := by
  rw [qtile, ← ld_0_6, ← mu_0, ← rstd_0]
  rfl

/-- The store of tile 7 of half 0. -/
theorem code_0_7 : trip_k0_t1.sl.v1773 arg6 arg17 arg18 X6 X17 X18 k = clipT (qtile arg6 arg17 arg18 X6 X17 X18 0 k 7) := by
  rw [qtile, ← ld_0_7, ← mu_0, ← rstd_0]
  rfl

/-- The store of tile 8 of half 0. -/
theorem code_0_8 : trip_k0_t1.sl.v1798 arg6 arg17 arg18 X6 X17 X18 k = clipT (qtile arg6 arg17 arg18 X6 X17 X18 0 k 8) := by
  rw [qtile, ← ld_0_8, ← mu_0, ← rstd_0]
  rfl

/-- The store of tile 9 of half 0. -/
theorem code_0_9 : trip_k0_t1.sl.v1823 arg6 arg17 arg18 X6 X17 X18 k = clipT (qtile arg6 arg17 arg18 X6 X17 X18 0 k 9) := by
  rw [qtile, ← ld_0_9, ← mu_0, ← rstd_0]
  rfl

/-- The store of tile 10 of half 0. -/
theorem code_0_10 : trip_k0_t1.sl.v1848 arg6 arg17 arg18 X6 X17 X18 k = clipT (qtile arg6 arg17 arg18 X6 X17 X18 0 k 10) := by
  rw [qtile, ← ld_0_10, ← mu_0, ← rstd_0]
  rfl

/-- The store of tile 11 of half 0. -/
theorem code_0_11 : trip_k0_t1.sl.v1873 arg6 arg17 arg18 X6 X17 X18 k = clipT (qtile arg6 arg17 arg18 X6 X17 X18 0 k 11) := by
  rw [qtile, ← ld_0_11, ← mu_0, ← rstd_0]
  rfl

/-- The store of tile 12 of half 0. -/
theorem code_0_12 : trip_k0_t1.sl.v1898 arg6 arg17 arg18 X6 X17 X18 k = clipT (qtile arg6 arg17 arg18 X6 X17 X18 0 k 12) := by
  rw [qtile, ← ld_0_12, ← mu_0, ← rstd_0]
  rfl

/-- The store of tile 13 of half 0. -/
theorem code_0_13 : trip_k0_t1.sl.v1923 arg6 arg17 arg18 X6 X17 X18 k = clipT (qtile arg6 arg17 arg18 X6 X17 X18 0 k 13) := by
  rw [qtile, ← ld_0_13, ← mu_0, ← rstd_0]
  rfl

/-- The store of tile 14 of half 0. -/
theorem code_0_14 : trip_k0_t1.sl.v1948 arg6 arg17 arg18 X6 X17 X18 k = clipT (qtile arg6 arg17 arg18 X6 X17 X18 0 k 14) := by
  rw [qtile, ← ld_0_14, ← mu_0, ← rstd_0]
  rfl

/-- The store of tile 15 of half 0. -/
theorem code_0_15 : trip_k0_t1.sl.v1973 arg6 arg17 arg18 X6 X17 X18 k = clipT (qtile arg6 arg17 arg18 X6 X17 X18 0 k 15) := by
  rw [qtile, ← ld_0_15, ← mu_0, ← rstd_0]
  rfl

/-- The store of tile 16 of half 0. -/
theorem code_0_16 : trip_k0_t1.sl.v1998 arg6 arg17 arg18 X6 X17 X18 k = clipT (qtile arg6 arg17 arg18 X6 X17 X18 0 k 16) := by
  rw [qtile, ← ld_0_16, ← mu_0, ← rstd_0]
  rfl

/-- The store of tile 17 of half 0. -/
theorem code_0_17 : trip_k0_t1.sl.v2023 arg6 arg17 arg18 X6 X17 X18 k = clipT (qtile arg6 arg17 arg18 X6 X17 X18 0 k 17) := by
  rw [qtile, ← ld_0_17, ← mu_0, ← rstd_0]
  rfl

/-- The store of tile 18 of half 0. -/
theorem code_0_18 : trip_k0_t1.sl.v2048 arg6 arg17 arg18 X6 X17 X18 k = clipT (qtile arg6 arg17 arg18 X6 X17 X18 0 k 18) := by
  rw [qtile, ← ld_0_18, ← mu_0, ← rstd_0]
  rfl

/-- The store of tile 19 of half 0. -/
theorem code_0_19 : trip_k0_t1.sl.v2073 arg6 arg17 arg18 X6 X17 X18 k = clipT (qtile arg6 arg17 arg18 X6 X17 X18 0 k 19) := by
  rw [qtile, ← ld_0_19, ← mu_0, ← rstd_0]
  rfl

/-- The store of tile 20 of half 0. -/
theorem code_0_20 : trip_k0_t1.sl.v2098 arg6 arg17 arg18 X6 X17 X18 k = clipT (qtile arg6 arg17 arg18 X6 X17 X18 0 k 20) := by
  rw [qtile, ← ld_0_20, ← mu_0, ← rstd_0]
  rfl

/-- The store of tile 21 of half 0. -/
theorem code_0_21 : trip_k0_t1.sl.v2123 arg6 arg17 arg18 X6 X17 X18 k = clipT (qtile arg6 arg17 arg18 X6 X17 X18 0 k 21) := by
  rw [qtile, ← ld_0_21, ← mu_0, ← rstd_0]
  rfl

/-- The store of tile 22 of half 0. -/
theorem code_0_22 : trip_k0_t1.sl.v2148 arg6 arg17 arg18 X6 X17 X18 k = clipT (qtile arg6 arg17 arg18 X6 X17 X18 0 k 22) := by
  rw [qtile, ← ld_0_22, ← mu_0, ← rstd_0]
  rfl

/-- The store of tile 23 of half 0. -/
theorem code_0_23 : trip_k0_t1.sl.v2173 arg6 arg17 arg18 X6 X17 X18 k = clipT (qtile arg6 arg17 arg18 X6 X17 X18 0 k 23) := by
  rw [qtile, ← ld_0_23, ← mu_0, ← rstd_0]
  rfl

/-- The store of tile 0 of half 1. -/
theorem code_1_0 : trip_k0_t1.sl.v2394 arg6 arg17 arg18 X6 X17 X18 k = clipT (qtile arg6 arg17 arg18 X6 X17 X18 1 k 0) := by
  rw [qtile, ← ld_1_0, ← mu_1, ← rstd_1]
  rfl

/-- The store of tile 1 of half 1. -/
theorem code_1_1 : trip_k0_t1.sl.v2419 arg6 arg17 arg18 X6 X17 X18 k = clipT (qtile arg6 arg17 arg18 X6 X17 X18 1 k 1) := by
  rw [qtile, ← ld_1_1, ← mu_1, ← rstd_1]
  rfl

/-- The store of tile 2 of half 1. -/
theorem code_1_2 : trip_k0_t1.sl.v2444 arg6 arg17 arg18 X6 X17 X18 k = clipT (qtile arg6 arg17 arg18 X6 X17 X18 1 k 2) := by
  rw [qtile, ← ld_1_2, ← mu_1, ← rstd_1]
  rfl

/-- The store of tile 3 of half 1. -/
theorem code_1_3 : trip_k0_t1.sl.v2469 arg6 arg17 arg18 X6 X17 X18 k = clipT (qtile arg6 arg17 arg18 X6 X17 X18 1 k 3) := by
  rw [qtile, ← ld_1_3, ← mu_1, ← rstd_1]
  rfl

/-- The store of tile 4 of half 1. -/
theorem code_1_4 : trip_k0_t1.sl.v2494 arg6 arg17 arg18 X6 X17 X18 k = clipT (qtile arg6 arg17 arg18 X6 X17 X18 1 k 4) := by
  rw [qtile, ← ld_1_4, ← mu_1, ← rstd_1]
  rfl

/-- The store of tile 5 of half 1. -/
theorem code_1_5 : trip_k0_t1.sl.v2519 arg6 arg17 arg18 X6 X17 X18 k = clipT (qtile arg6 arg17 arg18 X6 X17 X18 1 k 5) := by
  rw [qtile, ← ld_1_5, ← mu_1, ← rstd_1]
  rfl

/-- The store of tile 6 of half 1. -/
theorem code_1_6 : trip_k0_t1.sl.v2544 arg6 arg17 arg18 X6 X17 X18 k = clipT (qtile arg6 arg17 arg18 X6 X17 X18 1 k 6) := by
  rw [qtile, ← ld_1_6, ← mu_1, ← rstd_1]
  rfl

/-- The store of tile 7 of half 1. -/
theorem code_1_7 : trip_k0_t1.sl.v2569 arg6 arg17 arg18 X6 X17 X18 k = clipT (qtile arg6 arg17 arg18 X6 X17 X18 1 k 7) := by
  rw [qtile, ← ld_1_7, ← mu_1, ← rstd_1]
  rfl

/-- The store of tile 8 of half 1. -/
theorem code_1_8 : trip_k0_t1.sl.v2594 arg6 arg17 arg18 X6 X17 X18 k = clipT (qtile arg6 arg17 arg18 X6 X17 X18 1 k 8) := by
  rw [qtile, ← ld_1_8, ← mu_1, ← rstd_1]
  rfl

/-- The store of tile 9 of half 1. -/
theorem code_1_9 : trip_k0_t1.sl.v2619 arg6 arg17 arg18 X6 X17 X18 k = clipT (qtile arg6 arg17 arg18 X6 X17 X18 1 k 9) := by
  rw [qtile, ← ld_1_9, ← mu_1, ← rstd_1]
  rfl

/-- The store of tile 10 of half 1. -/
theorem code_1_10 : trip_k0_t1.sl.v2644 arg6 arg17 arg18 X6 X17 X18 k = clipT (qtile arg6 arg17 arg18 X6 X17 X18 1 k 10) := by
  rw [qtile, ← ld_1_10, ← mu_1, ← rstd_1]
  rfl

/-- The store of tile 11 of half 1. -/
theorem code_1_11 : trip_k0_t1.sl.v2669 arg6 arg17 arg18 X6 X17 X18 k = clipT (qtile arg6 arg17 arg18 X6 X17 X18 1 k 11) := by
  rw [qtile, ← ld_1_11, ← mu_1, ← rstd_1]
  rfl

/-- The store of tile 12 of half 1. -/
theorem code_1_12 : trip_k0_t1.sl.v2694 arg6 arg17 arg18 X6 X17 X18 k = clipT (qtile arg6 arg17 arg18 X6 X17 X18 1 k 12) := by
  rw [qtile, ← ld_1_12, ← mu_1, ← rstd_1]
  rfl

/-- The store of tile 13 of half 1. -/
theorem code_1_13 : trip_k0_t1.sl.v2719 arg6 arg17 arg18 X6 X17 X18 k = clipT (qtile arg6 arg17 arg18 X6 X17 X18 1 k 13) := by
  rw [qtile, ← ld_1_13, ← mu_1, ← rstd_1]
  rfl

/-- The store of tile 14 of half 1. -/
theorem code_1_14 : trip_k0_t1.sl.v2744 arg6 arg17 arg18 X6 X17 X18 k = clipT (qtile arg6 arg17 arg18 X6 X17 X18 1 k 14) := by
  rw [qtile, ← ld_1_14, ← mu_1, ← rstd_1]
  rfl

/-- The store of tile 15 of half 1. -/
theorem code_1_15 : trip_k0_t1.sl.v2769 arg6 arg17 arg18 X6 X17 X18 k = clipT (qtile arg6 arg17 arg18 X6 X17 X18 1 k 15) := by
  rw [qtile, ← ld_1_15, ← mu_1, ← rstd_1]
  rfl

/-- The store of tile 16 of half 1. -/
theorem code_1_16 : trip_k0_t1.sl.v2794 arg6 arg17 arg18 X6 X17 X18 k = clipT (qtile arg6 arg17 arg18 X6 X17 X18 1 k 16) := by
  rw [qtile, ← ld_1_16, ← mu_1, ← rstd_1]
  rfl

/-- The store of tile 17 of half 1. -/
theorem code_1_17 : trip_k0_t1.sl.v2819 arg6 arg17 arg18 X6 X17 X18 k = clipT (qtile arg6 arg17 arg18 X6 X17 X18 1 k 17) := by
  rw [qtile, ← ld_1_17, ← mu_1, ← rstd_1]
  rfl

/-- The store of tile 18 of half 1. -/
theorem code_1_18 : trip_k0_t1.sl.v2844 arg6 arg17 arg18 X6 X17 X18 k = clipT (qtile arg6 arg17 arg18 X6 X17 X18 1 k 18) := by
  rw [qtile, ← ld_1_18, ← mu_1, ← rstd_1]
  rfl

/-- The store of tile 19 of half 1. -/
theorem code_1_19 : trip_k0_t1.sl.v2869 arg6 arg17 arg18 X6 X17 X18 k = clipT (qtile arg6 arg17 arg18 X6 X17 X18 1 k 19) := by
  rw [qtile, ← ld_1_19, ← mu_1, ← rstd_1]
  rfl

/-- The store of tile 20 of half 1. -/
theorem code_1_20 : trip_k0_t1.sl.v2894 arg6 arg17 arg18 X6 X17 X18 k = clipT (qtile arg6 arg17 arg18 X6 X17 X18 1 k 20) := by
  rw [qtile, ← ld_1_20, ← mu_1, ← rstd_1]
  rfl

/-- The store of tile 21 of half 1. -/
theorem code_1_21 : trip_k0_t1.sl.v2919 arg6 arg17 arg18 X6 X17 X18 k = clipT (qtile arg6 arg17 arg18 X6 X17 X18 1 k 21) := by
  rw [qtile, ← ld_1_21, ← mu_1, ← rstd_1]
  rfl

/-- The store of tile 22 of half 1. -/
theorem code_1_22 : trip_k0_t1.sl.v2944 arg6 arg17 arg18 X6 X17 X18 k = clipT (qtile arg6 arg17 arg18 X6 X17 X18 1 k 22) := by
  rw [qtile, ← ld_1_22, ← mu_1, ← rstd_1]
  rfl

/-- The store of tile 23 of half 1. -/
theorem code_1_23 : k0_pay216 (trip_k0_t1.sl.v2958 arg6 arg17 arg18 X6 X17 X18 k) = clipT (qtile arg6 arg17 arg18 X6 X17 X18 1 k 23) := by
  rw [qtile, ← ld_1_23, ← mu_1, ← rstd_1]
  rfl

/-- The store of half 0's running maxima. -/
theorem amax_0 : trip_k0_t1.sl.v2177 arg6 arg17 arg18 X6 X17 X18 k = amaxTile arg6 arg17 arg18 X6 X17 X18 0 k := by
  unfold amaxTile qtile
  rw [← mu_0, ← rstd_0, ← ld_0_0, ← ld_0_1, ← ld_0_2, ← ld_0_3, ← ld_0_4, ← ld_0_5, ← ld_0_6, ← ld_0_7, ← ld_0_8, ← ld_0_9, ← ld_0_10, ← ld_0_11, ← ld_0_12, ← ld_0_13, ← ld_0_14, ← ld_0_15, ← ld_0_16, ← ld_0_17, ← ld_0_18, ← ld_0_19, ← ld_0_20, ← ld_0_21, ← ld_0_22, ← ld_0_23]
  rfl

/-- The store of half 1's running maxima. -/
theorem amax_1 : k0_pay219 (trip_k0_t1.sl.r_14 arg6 arg17 arg18 X6 X17 X18 k) = amaxTile arg6 arg17 arg18 X6 X17 X18 1 k := by
  unfold amaxTile qtile
  rw [← mu_1, ← rstd_1, ← ld_1_0, ← ld_1_1, ← ld_1_2, ← ld_1_3, ← ld_1_4, ← ld_1_5, ← ld_1_6, ← ld_1_7, ← ld_1_8, ← ld_1_9, ← ld_1_10, ← ld_1_11, ← ld_1_12, ← ld_1_13, ← ld_1_14, ← ld_1_15, ← ld_1_16, ← ld_1_17, ← ld_1_18, ← ld_1_19, ← ld_1_20, ← ld_1_21, ← ld_1_22, ← ld_1_23]
  rfl

end Cert.Proof.Trip

end
-- ==== Proof.Trip.lean ====
/-
  One trip of the kernel's loop stores the block's codes and magnitudes where it stores.
-/
module

public import proofs.«01_k».proof.Proof.Gen.KernelIdeal.Loops
public import proofs.«01_k».proof.Proof.TripStores

@[expose] public section

set_option maxRecDepth 100000
set_option maxHeartbeats 1000000

noncomputable section

namespace Cert.Proof.Trip

open Cert.KernelIdeal Cert.KernelIdeal.Gen Idealize.ShloMosaic Idealize.ShloMosaic.TcCoe
open Cert.Proof.RowMath Cert.Proof.Tiles Cert.Proof.Block

/-- The trip's stores of codes draw the block's codes. -/
theorem trip_codes (𝒱 : Variants) (c : Dev nD) (bd : Option 𝒱.V) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (X6 : BufTy.Contents (Elt Ideal) arg6.view.ty) (X17 : BufTy.Contents (Elt Ideal) arg17.view.ty) (X18 : BufTy.Contents (Elt Ideal) arg18.view.ty) (k : Fin k0_t1_loop.trips) :
    Draws (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 k).1 (codeBlk (arg6.view.read (Elt Ideal) X6) (arg17.view.read (Elt Ideal) X17) (arg18.view.read (Elt Ideal) X18)) := by
  unfold trip_k0_t1
  dsimp only
  exact
    Draws.cons (code_piece arg6 arg17 arg18 X6 X17 X18 1 k 23 _ (k0_off50_eq k) (k0_off50_inb k) _ (code_1_23 arg6 arg17 arg18 X6 X17 X18 k)) <|
    Draws.cons (code_piece arg6 arg17 arg18 X6 X17 X18 1 k 22 _ (k0_off49_eq k) (k0_off49_inb k) _ (code_1_22 arg6 arg17 arg18 X6 X17 X18 k)) <|
    Draws.cons (code_piece arg6 arg17 arg18 X6 X17 X18 1 k 21 _ (k0_off48_eq k) (k0_off48_inb k) _ (code_1_21 arg6 arg17 arg18 X6 X17 X18 k)) <|
    Draws.cons (code_piece arg6 arg17 arg18 X6 X17 X18 1 k 20 _ (k0_off47_eq k) (k0_off47_inb k) _ (code_1_20 arg6 arg17 arg18 X6 X17 X18 k)) <|
    Draws.cons (code_piece arg6 arg17 arg18 X6 X17 X18 1 k 19 _ (k0_off46_eq k) (k0_off46_inb k) _ (code_1_19 arg6 arg17 arg18 X6 X17 X18 k)) <|
    Draws.cons (code_piece arg6 arg17 arg18 X6 X17 X18 1 k 18 _ (k0_off45_eq k) (k0_off45_inb k) _ (code_1_18 arg6 arg17 arg18 X6 X17 X18 k)) <|
    Draws.cons (code_piece arg6 arg17 arg18 X6 X17 X18 1 k 17 _ (k0_off44_eq k) (k0_off44_inb k) _ (code_1_17 arg6 arg17 arg18 X6 X17 X18 k)) <|
    Draws.cons (code_piece arg6 arg17 arg18 X6 X17 X18 1 k 16 _ (k0_off43_eq k) (k0_off43_inb k) _ (code_1_16 arg6 arg17 arg18 X6 X17 X18 k)) <|
    Draws.cons (code_piece arg6 arg17 arg18 X6 X17 X18 1 k 15 _ (k0_off42_eq k) (k0_off42_inb k) _ (code_1_15 arg6 arg17 arg18 X6 X17 X18 k)) <|
    Draws.cons (code_piece arg6 arg17 arg18 X6 X17 X18 1 k 14 _ (k0_off41_eq k) (k0_off41_inb k) _ (code_1_14 arg6 arg17 arg18 X6 X17 X18 k)) <|
    Draws.cons (code_piece arg6 arg17 arg18 X6 X17 X18 1 k 13 _ (k0_off40_eq k) (k0_off40_inb k) _ (code_1_13 arg6 arg17 arg18 X6 X17 X18 k)) <|
    Draws.cons (code_piece arg6 arg17 arg18 X6 X17 X18 1 k 12 _ (k0_off39_eq k) (k0_off39_inb k) _ (code_1_12 arg6 arg17 arg18 X6 X17 X18 k)) <|
    Draws.cons (code_piece arg6 arg17 arg18 X6 X17 X18 1 k 11 _ (k0_off38_eq k) (k0_off38_inb k) _ (code_1_11 arg6 arg17 arg18 X6 X17 X18 k)) <|
    Draws.cons (code_piece arg6 arg17 arg18 X6 X17 X18 1 k 10 _ (k0_off37_eq k) (k0_off37_inb k) _ (code_1_10 arg6 arg17 arg18 X6 X17 X18 k)) <|
    Draws.cons (code_piece arg6 arg17 arg18 X6 X17 X18 1 k 9 _ (k0_off36_eq k) (k0_off36_inb k) _ (code_1_9 arg6 arg17 arg18 X6 X17 X18 k)) <|
    Draws.cons (code_piece arg6 arg17 arg18 X6 X17 X18 1 k 8 _ (k0_off35_eq k) (k0_off35_inb k) _ (code_1_8 arg6 arg17 arg18 X6 X17 X18 k)) <|
    Draws.cons (code_piece arg6 arg17 arg18 X6 X17 X18 1 k 7 _ (k0_off34_eq k) (k0_off34_inb k) _ (code_1_7 arg6 arg17 arg18 X6 X17 X18 k)) <|
    Draws.cons (code_piece arg6 arg17 arg18 X6 X17 X18 1 k 6 _ (k0_off33_eq k) (k0_off33_inb k) _ (code_1_6 arg6 arg17 arg18 X6 X17 X18 k)) <|
    Draws.cons (code_piece arg6 arg17 arg18 X6 X17 X18 1 k 5 _ (k0_off32_eq k) (k0_off32_inb k) _ (code_1_5 arg6 arg17 arg18 X6 X17 X18 k)) <|
    Draws.cons (code_piece arg6 arg17 arg18 X6 X17 X18 1 k 4 _ (k0_off31_eq k) (k0_off31_inb k) _ (code_1_4 arg6 arg17 arg18 X6 X17 X18 k)) <|
    Draws.cons (code_piece arg6 arg17 arg18 X6 X17 X18 1 k 3 _ (k0_off30_eq k) (k0_off30_inb k) _ (code_1_3 arg6 arg17 arg18 X6 X17 X18 k)) <|
    Draws.cons (code_piece arg6 arg17 arg18 X6 X17 X18 1 k 2 _ (k0_off29_eq k) (k0_off29_inb k) _ (code_1_2 arg6 arg17 arg18 X6 X17 X18 k)) <|
    Draws.cons (code_piece arg6 arg17 arg18 X6 X17 X18 1 k 1 _ (k0_off28_eq k) (k0_off28_inb k) _ (code_1_1 arg6 arg17 arg18 X6 X17 X18 k)) <|
    Draws.cons (code_piece arg6 arg17 arg18 X6 X17 X18 1 k 0 _ (k0_off27_eq k) (k0_off27_inb k) _ (code_1_0 arg6 arg17 arg18 X6 X17 X18 k)) <|
    Draws.cons (code_piece arg6 arg17 arg18 X6 X17 X18 0 k 23 _ (k0_off25_eq k) (k0_off25_inb k) _ (code_0_23 arg6 arg17 arg18 X6 X17 X18 k)) <|
    Draws.cons (code_piece arg6 arg17 arg18 X6 X17 X18 0 k 22 _ (k0_off24_eq k) (k0_off24_inb k) _ (code_0_22 arg6 arg17 arg18 X6 X17 X18 k)) <|
    Draws.cons (code_piece arg6 arg17 arg18 X6 X17 X18 0 k 21 _ (k0_off23_eq k) (k0_off23_inb k) _ (code_0_21 arg6 arg17 arg18 X6 X17 X18 k)) <|
    Draws.cons (code_piece arg6 arg17 arg18 X6 X17 X18 0 k 20 _ (k0_off22_eq k) (k0_off22_inb k) _ (code_0_20 arg6 arg17 arg18 X6 X17 X18 k)) <|
    Draws.cons (code_piece arg6 arg17 arg18 X6 X17 X18 0 k 19 _ (k0_off21_eq k) (k0_off21_inb k) _ (code_0_19 arg6 arg17 arg18 X6 X17 X18 k)) <|
    Draws.cons (code_piece arg6 arg17 arg18 X6 X17 X18 0 k 18 _ (k0_off20_eq k) (k0_off20_inb k) _ (code_0_18 arg6 arg17 arg18 X6 X17 X18 k)) <|
    Draws.cons (code_piece arg6 arg17 arg18 X6 X17 X18 0 k 17 _ (k0_off19_eq k) (k0_off19_inb k) _ (code_0_17 arg6 arg17 arg18 X6 X17 X18 k)) <|
    Draws.cons (code_piece arg6 arg17 arg18 X6 X17 X18 0 k 16 _ (k0_off18_eq k) (k0_off18_inb k) _ (code_0_16 arg6 arg17 arg18 X6 X17 X18 k)) <|
    Draws.cons (code_piece arg6 arg17 arg18 X6 X17 X18 0 k 15 _ (k0_off17_eq k) (k0_off17_inb k) _ (code_0_15 arg6 arg17 arg18 X6 X17 X18 k)) <|
    Draws.cons (code_piece arg6 arg17 arg18 X6 X17 X18 0 k 14 _ (k0_off16_eq k) (k0_off16_inb k) _ (code_0_14 arg6 arg17 arg18 X6 X17 X18 k)) <|
    Draws.cons (code_piece arg6 arg17 arg18 X6 X17 X18 0 k 13 _ (k0_off15_eq k) (k0_off15_inb k) _ (code_0_13 arg6 arg17 arg18 X6 X17 X18 k)) <|
    Draws.cons (code_piece arg6 arg17 arg18 X6 X17 X18 0 k 12 _ (k0_off14_eq k) (k0_off14_inb k) _ (code_0_12 arg6 arg17 arg18 X6 X17 X18 k)) <|
    Draws.cons (code_piece arg6 arg17 arg18 X6 X17 X18 0 k 11 _ (k0_off13_eq k) (k0_off13_inb k) _ (code_0_11 arg6 arg17 arg18 X6 X17 X18 k)) <|
    Draws.cons (code_piece arg6 arg17 arg18 X6 X17 X18 0 k 10 _ (k0_off12_eq k) (k0_off12_inb k) _ (code_0_10 arg6 arg17 arg18 X6 X17 X18 k)) <|
    Draws.cons (code_piece arg6 arg17 arg18 X6 X17 X18 0 k 9 _ (k0_off11_eq k) (k0_off11_inb k) _ (code_0_9 arg6 arg17 arg18 X6 X17 X18 k)) <|
    Draws.cons (code_piece arg6 arg17 arg18 X6 X17 X18 0 k 8 _ (k0_off10_eq k) (k0_off10_inb k) _ (code_0_8 arg6 arg17 arg18 X6 X17 X18 k)) <|
    Draws.cons (code_piece arg6 arg17 arg18 X6 X17 X18 0 k 7 _ (k0_off9_eq k) (k0_off9_inb k) _ (code_0_7 arg6 arg17 arg18 X6 X17 X18 k)) <|
    Draws.cons (code_piece arg6 arg17 arg18 X6 X17 X18 0 k 6 _ (k0_off8_eq k) (k0_off8_inb k) _ (code_0_6 arg6 arg17 arg18 X6 X17 X18 k)) <|
    Draws.cons (code_piece arg6 arg17 arg18 X6 X17 X18 0 k 5 _ (k0_off7_eq k) (k0_off7_inb k) _ (code_0_5 arg6 arg17 arg18 X6 X17 X18 k)) <|
    Draws.cons (code_piece arg6 arg17 arg18 X6 X17 X18 0 k 4 _ (k0_off6_eq k) (k0_off6_inb k) _ (code_0_4 arg6 arg17 arg18 X6 X17 X18 k)) <|
    Draws.cons (code_piece arg6 arg17 arg18 X6 X17 X18 0 k 3 _ (k0_off5_eq k) (k0_off5_inb k) _ (code_0_3 arg6 arg17 arg18 X6 X17 X18 k)) <|
    Draws.cons (code_piece arg6 arg17 arg18 X6 X17 X18 0 k 2 _ (k0_off4_eq k) (k0_off4_inb k) _ (code_0_2 arg6 arg17 arg18 X6 X17 X18 k)) <|
    Draws.cons (code_piece arg6 arg17 arg18 X6 X17 X18 0 k 1 _ (k0_off3_eq k) (k0_off3_inb k) _ (code_0_1 arg6 arg17 arg18 X6 X17 X18 k)) <|
    Draws.cons (code_piece arg6 arg17 arg18 X6 X17 X18 0 k 0 _ (k0_off2_eq k) (k0_off2_inb k) _ (code_0_0 arg6 arg17 arg18 X6 X17 X18 k)) <|
    Draws.nil _

/-- The trip's stores of running maxima draw the block's magnitudes. -/
theorem trip_amax (𝒱 : Variants) (c : Dev nD) (bd : Option 𝒱.V) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (X6 : BufTy.Contents (Elt Ideal) arg6.view.ty) (X17 : BufTy.Contents (Elt Ideal) arg17.view.ty) (X18 : BufTy.Contents (Elt Ideal) arg18.view.ty) (k : Fin k0_t1_loop.trips) :
    Draws (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 k).2.1 (amaxBlk (arg6.view.read (Elt Ideal) X6) (arg17.view.read (Elt Ideal) X17) (arg18.view.read (Elt Ideal) X18)) := by
  unfold trip_k0_t1
  dsimp only
  exact Draws.cons (amax_piece arg6 arg17 arg18 X6 X17 X18 1 k _ (k0_off51_eq k) (k0_off51_inb k) _ (amax_1 arg6 arg17 arg18 X6 X17 X18 k)) <|
    Draws.cons (amax_piece arg6 arg17 arg18 X6 X17 X18 0 k _ (k0_off26_eq k) (k0_off26_inb k) _ (amax_0 arg6 arg17 arg18 X6 X17 X18 k)) <| Draws.nil _

/-- All stores of codes before trip `n` draw the block's codes. -/
theorem loop_codes (𝒱 : Variants) (c : Dev nD) (bd : Option 𝒱.V) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (X6 : BufTy.Contents (Elt Ideal) arg6.view.ty) (X17 : BufTy.Contents (Elt Ideal) arg17.view.ty) (X18 : BufTy.Contents (Elt Ideal) arg18.view.ty)  (n : ℕ) (hn : n ≤ k0_t1_loop.trips) :
    Draws (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 n).1 (codeBlk (arg6.view.read (Elt Ideal) X6) (arg17.view.read (Elt Ideal) X17) (arg18.view.read (Elt Ideal) X18)) := by
  induction n with
  | zero => exact Draws.nil _
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 ⟨n, hn⟩]
    exact Draws.append (trip_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 ⟨n, hn⟩) (ih (Nat.le_of_succ_le hn))

/-- All stores of running maxima before trip `n` draw the block's magnitudes. -/
theorem loop_amax (𝒱 : Variants) (c : Dev nD) (bd : Option 𝒱.V) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (X6 : BufTy.Contents (Elt Ideal) arg6.view.ty) (X17 : BufTy.Contents (Elt Ideal) arg17.view.ty) (X18 : BufTy.Contents (Elt Ideal) arg18.view.ty)  (n : ℕ) (hn : n ≤ k0_t1_loop.trips) :
    Draws (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 n).2 (amaxBlk (arg6.view.read (Elt Ideal) X6) (arg17.view.read (Elt Ideal) X17) (arg18.view.read (Elt Ideal) X18)) := by
  induction n with
  | zero => exact Draws.nil _
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 ⟨n, hn⟩]
    exact Draws.append (trip_amax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 ⟨n, hn⟩) (ih (Nat.le_of_succ_le hn))

end Cert.Proof.Trip

end
-- ==== Proof.Coef.lean ====
/-
  What a grid point reads besides the loop, over the extended reals: the numbers of its batch entry, the gain and offset
  rows it recomputes, and, from the codes and magnitudes the loop has stored, the velocity and the row magnitudes.
-/
module

public import proofs.«01_k».proof.Proof.OutMath
public import proofs.«01_k».proof.Proof.Case
public import proofs.«01_k».proof.Proof.Trip

@[expose] public section

set_option maxRecDepth 16384
set_option maxHeartbeats 400000

noncomputable section

namespace Cert.Proof.Coef

open Cert.KernelIdeal Cert.KernelIdeal.Gen Idealize.ShloMosaic Idealize.ShloMosaic.TcCoe
open Cert.Proof.RowMath Cert.Proof.Block Cert.Proof.Out Cert.Proof.OutMath Cert.Proof.Case

/-! ## The numbers of a batch entry -/

/-- Position `8 h + b` of a vector of sixteen. -/
abbrev at16 (h : Fin 2) (b : Fin 8) : Fin 16 := ⟨8 * h.val + b.val, by omega⟩

/-- The number read at position `8 h + b`. -/
theorem num16_eq (arg2 : Memref sig .tc .smem S16 .f32) (harg2 : arg2.IsWhole) (x0 : Vec Ideal S16 .f32) (off : Fin 1 → ℕ)
    (inb : ∀ a, off a + S1.size a ≤ S16.size a) (h : Fin 2) (b : Fin 8) (e : off = ![8 * h.val + b.val]) :
    num16 arg2 (harg2.unread x0) off inb = x0 (ix1 (at16 h b)) := by
  subst e
  refine (View.ld_unit_apply_of (arg2.view.read (Elt Ideal) (harg2.unread x0)) _ _ _ _ (ix1 (at16 h b)) fun a => ?_).trans
    (congrFun (harg2.read_unread x0) _)
  fin_cases a
  simp [ix1, Shape.Idx.first]

/-- The number read at position `b`. -/
theorem num8_eq (arg3 : Memref sig .tc .smem S8 .f32) (harg3 : arg3.IsWhole) (x1 : Vec Ideal S8 .f32) (off : Fin 1 → ℕ)
    (inb : ∀ a, off a + S1.size a ≤ S8.size a) (b : Fin 8) (e : off = ![b.val]) :
    num8 arg3 (harg3.unread x1) off inb = x1 (ix1 b) := by
  subst e
  refine (View.ld_unit_apply_of (arg3.view.read (Elt Ideal) (harg3.unread x1)) _ _ _ _ (ix1 b) fun a => ?_).trans
    (congrFun (harg3.read_unread x1) _)
  fin_cases a
  simp [ix1, Shape.Idx.first]

/-! ## The gain and offset rows -/

/-- The gain rows of batch entry `b`: eight equal rows `(1 + scale) · (1 / s)` per half. -/
def gainBlk (b : Fin 8) (x0 : Vec Ideal S16 .f32) (x6 : Vec Ideal S2x1x1x3072 .f32) : Vec Ideal S2x8x3072 .f32 := fun i =>
  (1 + x6 (ix4 (i 0) 0 0 (i 2))) * Ideal.div 1 (x0 (ix1 (at16 (i 0) b)))

/-- The offset rows of batch entry `b`: eight equal rows `shift · (1 / s)` per half. -/
def offsetBlk (b : Fin 8) (x0 : Vec Ideal S16 .f32) (x5 : Vec Ideal S2x1x1x3072 .f32) : Vec Ideal S2x8x3072 .f32 := fun i =>
  x5 (ix4 (i 0) 0 0 (i 2)) * Ideal.div 1 (x0 (ix1 (at16 (i 0) b)))

/-- A half of a scale or shift at an index. -/
theorem vecIn_apply (arg8 : Memref sig .tc .vmem S2x1x1x3072 .f32) (harg8 : arg8.IsWhole) (x : Vec Ideal S2x1x1x3072 .f32) (h : Fin 2)
    (d : Fin 3072) : vecIn arg8 (harg8.unread x) h (ix4 0 0 0 d) = x (ix4 h 0 0 d) := by
  refine (View.ld_unit_apply_of (arg8.view.read (Elt Ideal) (harg8.unread x)) _ _ _ _ (ix4 h 0 0 d) fun a => ?_).trans
    (congrFun (harg8.read_unread x) _)
  fin_cases a <;> simp [ix4]

/-- A gain row at an index. -/
theorem gainRows_apply (s : EReal) (x : Vec Ideal S1x1x1x3072 .f32) (u : Fin 1) (r : Fin 8) (d : Fin 3072) :
    gainRows (F := Ideal) s x (ix3 u r d) = (1 + x (ix4 0 0 0 d)) * Ideal.div 1 s := by
  unfold gainRows
  pointwise

/-- An offset row at an index. -/
theorem offsetRows_apply (s : EReal) (x : Vec Ideal S1x1x1x3072 .f32) (u : Fin 1) (r : Fin 8) (d : Fin 3072) :
    offsetRows (F := Ideal) s x (ix3 u r d) = x (ix4 0 0 0 d) * Ideal.div 1 s := by
  unfold offsetRows
  pointwise

/-- Index of a half's rows in both halves'. -/
theorem coef_emb (h : Fin 2) (u : Fin 1) (r : Fin 8) (d : Fin 3072) :
    (Rect.unit (s := S2x8x3072) ![h.val, 0, 0] S1x8x3072.size (coefInb h)).emb (ix3 u r d) = ix3 h r d := by
  funext a
  apply Fin.ext
  refine (Rect.idx_unit_val _ _ (coefInb h) _ a).trans ?_
  have hu := u.isLt
  fin_cases a <;> simp [ix3] <;> omega

/-- The store of a half's rows. -/
def coefP (v : Vec Ideal S1x8x3072 .f32) (h : Fin 2) : View.Piece (Elt Ideal) S2x8x3072 .f32 :=
  ⟨Rect.unit (s := S2x8x3072) ![h.val, 0, 0] S1x8x3072.size (coefInb h), v⟩

/-- A half's index is within the half's store. -/
theorem coef_mem (v : Vec Ideal S1x8x3072 .f32) (h : Fin 2) (r : Fin 8) (d : Fin 3072) : (ix3 h r d : S2x8x3072.Idx) ∈ (coefP v h).1.set := by
  rw [← coef_emb h 0 r d]
  exact (LoadRect.mem_set _).mpr fun a => ⟨_, ((ix3 (0 : Fin 1) r d : S1x8x3072.Idx) a).isLt, rfl⟩

/-- A half's store draws what it agrees with. -/
theorem coef_draws (v : Vec Ideal S1x8x3072 .f32) (f : Vec Ideal S2x8x3072 .f32) (h : Fin 2)
    (hp : ∀ r d, v (ix3 0 r d) = f (ix3 h r d)) (x : (coefP v h).1.shape.Idx) : (coefP v h).2 x = f ((coefP v h).1.emb x) := by
  obtain ⟨u, r, d, rfl⟩ : ∃ (u : Fin 1) (r : Fin 8) (d : Fin 3072), x = ix3 u r d := ⟨x 0, x 1, x 2, eq_ix3 x⟩
  refine Eq.trans ?_ (congrArg f (coef_emb h u r d).symm)
  rw [← hp]
  have hu : u = 0 := Fin.ext (by have := u.isLt; omega)
  rw [hu]
  rfl

/-- Two stores, one per half, leave a function both draw. -/
theorem coef_canon (p0 p1 : Vec Ideal S1x8x3072 .f32) (f : Vec Ideal S2x8x3072 .f32)
    (h0 : ∀ r d, p0 (ix3 0 r d) = f (ix3 0 r d)) (h1 : ∀ r d, p1 (ix3 0 r d) = f (ix3 1 r d)) :
    View.canon [coefP p1 1, coefP p0 0] = f := by
  funext y
  obtain ⟨h, r, d, rfl⟩ : ∃ (h : Fin 2) (r : Fin 8) (d : Fin 3072), y = ix3 h r d := ⟨y 0, y 1, y 2, eq_ix3 y⟩
  have hdr : Draws [coefP p1 1, coefP p0 0] f :=
    Draws.cons (coef_draws p1 f 1 h1) (Draws.cons (coef_draws p0 f 0 h0) (Draws.nil _))
  refine hdr.canon _ ?_
  by_cases e : h = 0
  · subst e
    exact ⟨_, List.mem_cons_of_mem _ List.mem_cons_self, coef_mem p0 0 r d⟩
  · have e : h = 1 := Fin.ext (by have := h.isLt; have : h.val ≠ 0 := fun w => e (Fin.ext w); show h.val = 1; omega)
    subst e
    exact ⟨_, List.mem_cons_self, coef_mem p1 1 r d⟩

/-- The stores of the gain rows leave them. -/
theorem gain_canon (arg8 : Memref sig .tc .vmem S2x1x1x3072 .f32) (harg8 : arg8.IsWhole) (b : Fin 8) (x0 : Vec Ideal S16 .f32)
    (x6 : Vec Ideal S2x1x1x3072 .f32) :
    View.canon (gainL (F := Ideal) (x0 (ix1 (at16 0 b))) (x0 (ix1 (at16 1 b))) (vecIn arg8 (harg8.unread x6) 0) (vecIn arg8 (harg8.unread x6) 1))
      = gainBlk b x0 x6 :=
  coef_canon _ _ _ (fun r d => by rw [gainRows_apply, vecIn_apply, gainBlk]; rfl) (fun r d => by rw [gainRows_apply, vecIn_apply, gainBlk]; rfl)

/-- The stores of the offset rows leave them. -/
theorem offset_canon (arg7 : Memref sig .tc .vmem S2x1x1x3072 .f32) (harg7 : arg7.IsWhole) (b : Fin 8) (x0 : Vec Ideal S16 .f32)
    (x5 : Vec Ideal S2x1x1x3072 .f32) :
    View.canon (offsetL (F := Ideal) (x0 (ix1 (at16 0 b))) (x0 (ix1 (at16 1 b))) (vecIn arg7 (harg7.unread x5) 0) (vecIn arg7 (harg7.unread x5) 1))
      = offsetBlk b x0 x5 :=
  coef_canon _ _ _ (fun r d => by rw [offsetRows_apply, vecIn_apply, offsetBlk]; rfl) (fun r d => by rw [offsetRows_apply, vecIn_apply, offsetBlk]; rfl)

/-! ## The velocity of a block -/

/-- Feature `p` of row `r`'s projection in half `h`: the dot with the weights, scaled back, plus the bias. -/
def projAt (Q : Vec Ideal S2x1x512x3072 .fp8e4m3) (w : Vec Ideal S64x3072 .fp8e4m3) (ws bias : Vec Ideal S64x1 .f32) (s : EReal)
    (h : Fin 2) (p : Fin 64) (r : Fin 512) : EReal :=
  (∑ d : Fin 3072, w (ix2 p d) * Q (ix4 h 0 r d)) * s * ws (ix2 p 0) + bias (ix2 p 0)

/-- Feature `p` of row `r`'s guided velocity. -/
def velAt (Q : Vec Ideal S2x1x512x3072 .fp8e4m3) (w : Vec Ideal S64x3072 .fp8e4m3) (ws bias : Vec Ideal S64x1 .f32) (s : Fin 2 → EReal)
    (g : EReal) (p : Fin 64) (r : Fin 512) : EReal :=
  projAt Q w ws bias (s 1) 1 p r + g * (projAt Q w ws bias (s 0) 0 p r - projAt Q w ws bias (s 1) 1 p r)

/-- The velocity as an image: a row of it is two interleaved rows of patches. -/
def velImg (Q : Vec Ideal S2x1x512x3072 .fp8e4m3) (w : Vec Ideal S64x3072 .fp8e4m3) (ws bias : Vec Ideal S64x1 .f32) (s : Fin 2 → EReal)
    (g : EReal) (ch y : Fin 16) (l : Fin 128) : EReal :=
  velAt Q w ws bias s g ⟨32 * (y.val % 2) + 16 * (l.val % 2) + ch.val, by omega⟩ ⟨64 * (y.val / 2) + l.val / 2, by omega⟩

/-- A chunk of the codes stored, read at an index. -/
theorem codesC_apply (arg15 : Memref sig .tc .vmem S2x1x512x3072 .fp8e4m3) (L : List (View.Piece (Elt Ideal) S2x1x512x3072 .fp8e4m3))
    (h : Fin 2) (c : Fin 4) (k : Fin 128) (d : Fin 3072) :
    codesC arg15 L h c (ix4 0 0 k d) = View.canon L (ix4 h 0 ⟨128 * c.val + k.val, by omega⟩ d) := by
  unfold codesC
  rw [View.readCov_eq_canon']
  refine congrArg (View.canon L) ?_
  funext a
  apply Fin.ext
  refine (Rect.idx_unit_val _ _ (codesInb h c) _ a).trans ?_
  fin_cases a <;> simp [ix4]

/-- A chunk of the running maxima stored, read at an index. -/
theorem rowsC_apply (arg19 : Memref sig .tc .vmem S2x512x128 .f32) (L : List (View.Piece (Elt Ideal) S2x512x128 .f32))
    (h : Fin 2) (c : Fin 4) (k l : Fin 128) :
    rowsC arg19 L h c (ix3 0 k l) = View.canon L (ix3 h ⟨128 * c.val + k.val, by omega⟩ l) := by
  unfold rowsC
  rw [View.readCov_eq_canon']
  refine congrArg (View.canon L) ?_
  funext a
  apply Fin.ext
  refine (Rect.idx_unit_val _ _ (rowsInb h c) _ a).trans ?_
  fin_cases a <;> simp [ix3]

/-- The velocity of a chunk, where the codes stored are `Q`. -/
theorem velC_apply (arg15 : Memref sig .tc .vmem S2x1x512x3072 .fp8e4m3) (L : List (View.Piece (Elt Ideal) S2x1x512x3072 .fp8e4m3))
    (Q : Vec Ideal S2x1x512x3072 .fp8e4m3) (hQ : View.canon L = Q) (w : Vec Ideal S64x3072 .fp8e4m3) (ws bias : Vec Ideal S64x1 .f32)
    (s : Fin 2 → EReal) (g : EReal) (c : Fin 4) (p : Fin 64) (k : Fin 128) :
    velC (F := Ideal) arg15 L w ws bias (s 0) (s 1) g c (ix2 p k) = velAt Q w ws bias s g p ⟨128 * c.val + k.val, by omega⟩ := by
  subst hQ
  unfold velC
  rw [guided_apply, proj_apply, proj_apply]
  simp only [codesC_apply]
  rfl

/-- A channel of the image, where the codes stored are `Q`. -/
theorem img_apply (arg15 : Memref sig .tc .vmem S2x1x512x3072 .fp8e4m3) (arg20 : Memref sig .tc .vmem S272x128 .f32)
    (L : List (View.Piece (Elt Ideal) S2x1x512x3072 .fp8e4m3))
    (Q : Vec Ideal S2x1x512x3072 .fp8e4m3) (hQ : View.canon L = Q) (w : Vec Ideal S64x3072 .fp8e4m3) (ws bias : Vec Ideal S64x1 .f32)
    (s : Fin 2 → EReal) (g : EReal) (ch y : Fin 16) (l : Fin 128) :
    chan arg20 (imgC (F := Ideal) arg15 L w ws bias (s 0) (s 1) g) ch (ix2 y l) = velImg Q w ws bias s g ch y l := by
  refine (chan_apply arg20 (fun c => velC (F := Ideal) arg15 L w ws bias (s 0) (s 1) g c) ch y l).trans ?_
  unfold imgE
  beta_reduce
  rw [velC_apply arg15 L Q hQ]
  unfold velImg
  congr 1
  apply Fin.ext
  show 128 * (y.val / 4) + (64 * (y.val / 2 % 2) + l.val / 2) = 64 * (y.val / 2) + l.val / 2
  omega

/-- A channel of the latent at an index. -/
theorem latIn_apply (arg12 : Memref sig .tc .vmem S1x16x16x128 .f32) (harg12 : arg12.IsWhole) (x10 : Vec Ideal S1x16x16x128 .f32)
    (g y : Fin 16) (l : Fin 128) : latIn arg12 (harg12.unread x10) g (ix4 0 0 y l) = x10 (ix4 0 g y l) := by
  refine (View.ld_unit_apply_of (arg12.view.read (Elt Ideal) (harg12.unread x10)) _ _ _ _ (ix4 0 g y l) fun a => ?_).trans
    (congrFun (harg12.read_unread x10) _)
  fin_cases a <;> simp [ix4]

/-- A whole array read is the array. -/
theorem whole2 {S : Shape} {e : EltTy} (hS : S.rank = 2) (a : Memref sig .tc .vmem S e) (ha : a.IsWhole) (x : Vec Ideal S e)
    (off : Fin S.rank → ℕ) (h0 : off = fun _ => 0) (inb : ∀ k, off k + S.size k ≤ S.size k) :
    View.readAt (Elt Ideal) a.view (Rect.unit (s := S) off S.size inb).toLoadRect (ha.unread x) = x :=
  (View.ld_unit_zero h0 inb (a.view.read (Elt Ideal) (ha.unread x))).trans (ha.read_unread x)

/-! ## The magnitudes of a block -/

/-- A row's magnitude: the greatest over the lanes of the greatest over the tiles, scaled back. -/
def amaxAt (R : Vec Ideal S2x512x128 .f32) (s : Fin 2 → EReal) (h : Fin 2) (r : Fin 512) : EReal :=
  ((Finset.univ : Finset (Fin 128)).fold max ⊥ fun m => R (ix3 h r m)) * s h

/-- The stores of the magnitudes, where the running maxima stored are `R`. -/
theorem amax_apply (arg19 : Memref sig .tc .vmem S2x512x128 .f32) (L : List (View.Piece (Elt Ideal) S2x512x128 .f32))
    (R : Vec Ideal S2x512x128 .f32) (hR : View.canon L = R) (s : Fin 2 → EReal) (h : Fin 2) (u v : Fin 1) (r : Fin 512) :
    View.canon (amaxL (F := Ideal) (s 0) (s 1) (rowsC arg19 L)) (ix4 h u v r) = amaxAt R s h r := by
  subst hR
  rw [amax_canon]
  unfold amaxAt
  congr 2
  funext m
  rw [rowsC_apply]
  congr 2
  apply Fin.ext
  show 128 * (r.val / 128) + r.val % 128 = r.val
  omega

end Cert.Proof.Coef

end
-- ==== Proof.Point.lean ====
/-
  What the kernel's body leaves at a grid point of batch entry `b`, as functions of the blocks it reads: codes, row
  magnitudes, the image of velocities and the new latent, in both of its cases, and the gain and offset rows it
  recomputes.
-/
module

public import proofs.«01_k».proof.Proof.Coef

@[expose] public section

set_option maxRecDepth 16384
set_option maxHeartbeats 1000000

noncomputable section

namespace Cert.Proof.Point

open Cert.KernelIdeal Cert.KernelIdeal.Gen Idealize.ShloMosaic Idealize.ShloMosaic.TcCoe
open Cert.Proof.RowMath Cert.Proof.Block Cert.Proof.Out Cert.Proof.OutMath Cert.Proof.Case Cert.Proof.Coef Cert.Proof.Trip

/-! ## The blocks left -/

/-- The row magnitudes from the running maxima. -/
def amaxF (R : Vec Ideal S2x512x128 .f32) (b : Fin 8) (x0 : Vec Ideal S16 .f32) : Vec Ideal S2x1x1x512 .f32 := fun i =>
  amaxAt R (fun h => x0 (ix1 (at16 h b))) (i 0) (i 3)

/-- The image of velocities from the codes. -/
def velF (Q : Vec Ideal S2x1x512x3072 .fp8e4m3) (b : Fin 8) (x0 : Vec Ideal S16 .f32) (x1 : Vec Ideal S8 .f32)
    (x7 : Vec Ideal S64x3072 .fp8e4m3) (x8 x9 : Vec Ideal S64x1 .f32) : Vec Ideal S1x16x16x128 .bf16 := fun i =>
  velImg Q x7 x8 x9 (fun h => x0 (ix1 (at16 h b))) (x1 (ix1 b)) (i 1) (i 2) (i 3)

/-- The new latent from the old one and the codes. -/
def latF (Q : Vec Ideal S2x1x512x3072 .fp8e4m3) (b : Fin 8) (x0 : Vec Ideal S16 .f32) (x1 x2 x3 : Vec Ideal S8 .f32)
    (x7 : Vec Ideal S64x3072 .fp8e4m3) (x8 x9 : Vec Ideal S64x1 .f32) (x10 : Vec Ideal S1x16x16x128 .f32) : Vec Ideal S1x16x16x128 .f32 := fun i =>
  x10 (ix4 0 (i 1) (i 2) (i 3)) + (x3 (ix1 b) - x2 (ix1 b)) * velImg Q x7 x8 x9 (fun h => x0 (ix1 (at16 h b))) (x1 (ix1 b)) (i 1) (i 2) (i 3)

/-! ## The running maxima are all stored -/

/-- Row `r` of trip `k` is within the store of trip `k`'s running maxima. -/
theorem row_mem (h : Fin 2) (k : Fin k0_t1_loop.trips) (off : Fin 3 → ℕ) (hoff : off = ![h.val, 32 * k.val, 0])
    (inb : ∀ a, off a + S1x32x128.size a ≤ S2x512x128.size a) (r : Fin 32) (l : Fin 128) :
    (ix3 h (rowOf k r) l : S2x512x128.Idx) ∈ (Rect.unit (s := S2x512x128) off S1x32x128.size inb).set := by
  subst hoff
  have e : (Rect.unit (s := S2x512x128) ![h.val, 32 * k.val, 0] S1x32x128.size inb).emb (ix3 0 r l) = ix3 h (rowOf k r) l := by
    funext a
    apply Fin.ext
    refine (Rect.idx_unit_val _ _ inb _ a).trans ?_
    fin_cases a <;> simp [ix3]
  rw [← e]
  exact (LoadRect.mem_set _).mpr fun a => ⟨_, ((ix3 (0 : Fin 1) r l : S1x32x128.Idx) a).isLt, rfl⟩

/-- Trip `k` stores the running maxima of its rows. -/
theorem trip_cover (𝒱 : Variants) (c : Dev nD) (bd : Option 𝒱.V) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (X6 : BufTy.Contents (Elt Ideal) arg6.view.ty) (X17 : BufTy.Contents (Elt Ideal) arg17.view.ty) (X18 : BufTy.Contents (Elt Ideal) arg18.view.ty)
    (k : Fin k0_t1_loop.trips) (h : Fin 2) (r : Fin 32) (l : Fin 128) :
    ∃ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 k).2.1, (ix3 h (rowOf k r) l : S2x512x128.Idx) ∈ p.1.set := by
  unfold trip_k0_t1
  dsimp only
  by_cases e : h = 0
  · subst e
    exact ⟨_, List.mem_cons_of_mem _ List.mem_cons_self, row_mem 0 k _ (k0_off26_eq k) (k0_off26_inb k) r l⟩
  · have e : h = 1 := Fin.ext (by have := h.isLt; have : h.val ≠ 0 := fun w => e (Fin.ext w); show h.val = 1; omega)
    subst e
    exact ⟨_, List.mem_cons_self, row_mem 1 k _ (k0_off51_eq k) (k0_off51_inb k) r l⟩

/-- The trips before `n` store the running maxima of their rows. -/
theorem loop_cover (𝒱 : Variants) (c : Dev nD) (bd : Option 𝒱.V) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (X6 : BufTy.Contents (Elt Ideal) arg6.view.ty) (X17 : BufTy.Contents (Elt Ideal) arg17.view.ty) (X18 : BufTy.Contents (Elt Ideal) arg18.view.ty)
    (h : Fin 2) (r : Fin 32) (l : Fin 128) (n : ℕ) (hn : n ≤ k0_t1_loop.trips) (k : Fin k0_t1_loop.trips) (hk : k.val < n) :
    ∃ p ∈ (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 n).2, (ix3 h (rowOf k r) l : S2x512x128.Idx) ∈ p.1.set := by
  induction n with
  | zero => exact absurd hk (Nat.not_lt_zero _)
  | succ n ih =>
    rw [pb_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 ⟨n, hn⟩]
    by_cases e : k.val = n
    · have e' : k = ⟨n, hn⟩ := Fin.ext e
      subst e'
      obtain ⟨p, hp, hm⟩ := trip_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 ⟨n, hn⟩ h r l
      exact ⟨p, List.mem_append_left _ hp, hm⟩
    · obtain ⟨p, hp, hm⟩ := ih (Nat.le_of_succ_le hn) (by omega)
      exact ⟨p, List.mem_append_right _ hp, hm⟩

/-- The loop makes sixteen trips. -/
theorem trips_eq : k0_t1_loop.trips = 16 := by decide +kernel

/-- What the loop leaves of the running maxima. -/
theorem loop_rows (c : Dev nD) (i : grid0.Coords) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (X6 : BufTy.Contents (Elt Ideal) arg6.view.ty) (X17 : BufTy.Contents (Elt Ideal) arg17.view.ty) (X18 : BufTy.Contents (Elt Ideal) arg18.view.ty) :
    View.canon (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 (Scf.trips k0_t1_loop.lb k0_t1_loop.ub k0_t1_loop.st)).2
      = amaxBlk (arg6.view.read (Elt Ideal) X6) (arg17.view.read (Elt Ideal) X17) (arg18.view.read (Elt Ideal) X18) := by
  funext y
  refine (loop_amax Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 k0_t1_loop.trips le_rfl).canon y ?_
  obtain ⟨h, r, l, rfl⟩ : ∃ (h : Fin 2) (r : Fin 512) (l : Fin 128), y = ix3 h r l := ⟨y 0, y 1, y 2, eq_ix3 y⟩
  have hr := r.isLt
  have hk : r.val / 32 < k0_t1_loop.trips := by rw [trips_eq]; omega
  have := loop_cover Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X6 X17 X18 h ⟨r.val % 32, by omega⟩ l k0_t1_loop.trips le_rfl ⟨r.val / 32, hk⟩ hk
  have e : rowOf ⟨r.val / 32, hk⟩ ⟨r.val % 32, by omega⟩ = r := Fin.ext (by show 32 * (r.val / 32) + r.val % 32 = r.val; omega)
  rwa [e] at this

/-- The codes the loop leaves, the rows recomputed. -/
theorem codesBlk_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    View.canon (loopA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).1 = (codeBlk x4 (gainBlk b x0 x6) (offsetBlk b x0 x5)) := by
  have hd := loop_codes Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg6.unread x4) (arg17.view.writes (Elt Ideal) arg17.view.junk (gainL (num16 arg2 (harg2.unread x0) (k0_off1 i 0#32) (offA_inb i hc0 0)) (num16 arg2 (harg2.unread x0) (k0_off1 i 8#32) (offA_inb i hc0 1)) (vecIn arg8 (harg8.unread x6) 0) (vecIn arg8 (harg8.unread x6) 1))) (arg18.view.writes (Elt Ideal) arg18.view.junk (offsetL (num16 arg2 (harg2.unread x0) (k0_off1 i 0#32) (offA_inb i hc0 0)) (num16 arg2 (harg2.unread x0) (k0_off1 i 8#32) (offA_inb i hc0 1)) (vecIn arg7 (harg7.unread x5) 0) (vecIn arg7 (harg7.unread x5) 1))) k0_t1_loop.trips le_rfl
  refine (funext fun y => hd.canon y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 y)).trans ?_
  have e0 : num16 arg2 (harg2.unread x0) (k0_off1 i 0#32) (offA_inb i hc0 0) = x0 (ix1 (at16 0 b)) :=
    num16_eq arg2 harg2 x0 _ _ 0 b (by have h := k0_off1_eq i 0; rw [hb] at h; exact h)
  have e1 : num16 arg2 (harg2.unread x0) (k0_off1 i 8#32) (offA_inb i hc0 1) = x0 (ix1 (at16 1 b)) :=
    num16_eq arg2 harg2 x0 _ _ 1 b (by have h := k0_off1_eq i 1; rw [hb] at h; exact h)
  rw [harg6.read_unread, View.read_writes_junk_eq_canon, View.read_writes_junk_eq_canon, e0, e1, gain_canon, offset_canon]

/-- The running maxima the loop leaves, the rows recomputed. -/
theorem rowsBlk_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    View.canon (loopA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10).2 = (amaxBlk x4 (gainBlk b x0 x6) (offsetBlk b x0 x5)) := by
  refine (loop_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _).trans ?_
  have e0 : num16 arg2 (harg2.unread x0) (k0_off1 i 0#32) (offA_inb i hc0 0) = x0 (ix1 (at16 0 b)) :=
    num16_eq arg2 harg2 x0 _ _ 0 b (by have h := k0_off1_eq i 0; rw [hb] at h; exact h)
  have e1 : num16 arg2 (harg2.unread x0) (k0_off1 i 8#32) (offA_inb i hc0 1) = x0 (ix1 (at16 1 b)) :=
    num16_eq arg2 harg2 x0 _ _ 1 b (by have h := k0_off1_eq i 1; rw [hb] at h; exact h)
  rw [harg6.read_unread, View.read_writes_junk_eq_canon, View.read_writes_junk_eq_canon, e0, e1, gain_canon, offset_canon]

/-- The codes left, the rows recomputed. -/
theorem out13_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = (codeBlk x4 (gainBlk b x0 x6) (offsetBlk b x0 x5)) := by
  unfold out0_A_13
  rw [View.read_writes_junk_eq_canon, codes_A]
  exact codesBlk_A c i b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10

/-- The row magnitudes left, the rows recomputed. -/
theorem out14_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = amaxF (amaxBlk x4 (gainBlk b x0 x6) (offsetBlk b x0 x5)) b x0 := by
  unfold out0_A_14
  rw [View.read_writes_junk_eq_canon, amax_A]
  have s0 : num16 arg2 (harg2.unread x0) (k0_off52 i 0#32) (k0_off52_inb i 0) = x0 (ix1 (at16 0 b)) :=
    num16_eq arg2 harg2 x0 _ _ 0 b (by have h := k0_off52_eq i 0; rw [hb] at h; exact h)
  have s1 : num16 arg2 (harg2.unread x0) (k0_off52 i 8#32) (k0_off52_inb i 1) = x0 (ix1 (at16 1 b)) :=
    num16_eq arg2 harg2 x0 _ _ 1 b (by have h := k0_off52_eq i 1; rw [hb] at h; exact h)
  rw [s0, s1]
  funext i
  obtain ⟨h, u, v, r, rfl⟩ : ∃ (h : Fin 2) (u v : Fin 1) (r : Fin 512), i = ix4 h u v r := ⟨i 0, i 1, i 2, i 3, eq_ix4 i⟩
  exact amax_apply arg19 _ _ (rowsBlk_A c _ b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) (fun h => x0 (ix1 (at16 h b))) h u v r

/-- The image of velocities left, the rows recomputed. -/
theorem out12_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = velF (codeBlk x4 (gainBlk b x0 x6) (offsetBlk b x0 x5)) b x0 x1 x7 x8 x9 := by
  unfold out0_A_12
  rw [View.read_writes_junk_eq_canon, vel_A]
  have s0 : num16 arg2 (harg2.unread x0) (k0_off52 i 0#32) (k0_off52_inb i 0) = x0 (ix1 (at16 0 b)) :=
    num16_eq arg2 harg2 x0 _ _ 0 b (by have h := k0_off52_eq i 0; rw [hb] at h; exact h)
  have s1 : num16 arg2 (harg2.unread x0) (k0_off52 i 8#32) (k0_off52_inb i 1) = x0 (ix1 (at16 1 b)) :=
    num16_eq arg2 harg2 x0 _ _ 1 b (by have h := k0_off52_eq i 1; rw [hb] at h; exact h)
  have s2 : num8 arg3 (harg3.unread x1) (k0_off53 i) (k0_off53_inb i) = x1 (ix1 b) :=
    num8_eq arg3 harg3 x1 _ _ b (by have h := k0_off53_eq i; rw [hb] at h; exact h)
  have z : (![0, 0] : Fin 2 → ℕ) = fun _ => 0 := by funext a; fin_cases a <;> rfl
  have w7 : View.readAt (Elt Ideal) arg9.view (Rect.unit (s := S64x3072) ![0, 0] S64x3072.size inb_S64x3072_S64x3072_0_0).toLoadRect (harg9.unread x7) = x7 := whole2 rfl arg9 harg9 x7 _ z _
  have w8 : View.readAt (Elt Ideal) arg10.view (Rect.unit (s := S64x1) ![0, 0] S64x1.size inb_S64x1_S64x1_0_0).toLoadRect (harg10.unread x8) = x8 := whole2 rfl arg10 harg10 x8 _ z _
  have w9 : View.readAt (Elt Ideal) arg11.view (Rect.unit (s := S64x1) ![0, 0] S64x1.size inb_S64x1_S64x1_0_0).toLoadRect (harg11.unread x9) = x9 := whole2 rfl arg11 harg11 x9 _ z _
  rw [s0, s1, s2, w7, w8, w9]
  funext i
  obtain ⟨u, g, y, l, rfl⟩ : ∃ (u : Fin 1) (g y : Fin 16) (l : Fin 128), i = ix4 u g y l := ⟨i 0, i 1, i 2, i 3, eq_ix4 i⟩
  exact (vel_canon _ u g y l).trans (img_apply arg15 arg20 _ _ (codesBlk_A c _ b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) x7 x8 x9 (fun h => x0 (ix1 (at16 h b))) (x1 (ix1 b)) g y l)

/-- The new latent left, the rows recomputed. -/
theorem out11_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = latF (codeBlk x4 (gainBlk b x0 x6) (offsetBlk b x0 x5)) b x0 x1 x2 x3 x7 x8 x9 x10 := by
  unfold out0_A_11
  rw [View.read_writes_junk_eq_canon, lat_A]
  have s0 : num16 arg2 (harg2.unread x0) (k0_off52 i 0#32) (k0_off52_inb i 0) = x0 (ix1 (at16 0 b)) :=
    num16_eq arg2 harg2 x0 _ _ 0 b (by have h := k0_off52_eq i 0; rw [hb] at h; exact h)
  have s1 : num16 arg2 (harg2.unread x0) (k0_off52 i 8#32) (k0_off52_inb i 1) = x0 (ix1 (at16 1 b)) :=
    num16_eq arg2 harg2 x0 _ _ 1 b (by have h := k0_off52_eq i 1; rw [hb] at h; exact h)
  have s2 : num8 arg3 (harg3.unread x1) (k0_off53 i) (k0_off53_inb i) = x1 (ix1 b) :=
    num8_eq arg3 harg3 x1 _ _ b (by have h := k0_off53_eq i; rw [hb] at h; exact h)
  have s3 : num8 arg4 (harg4.unread x2) (k0_off53 i) (k0_off53_inb i) = x2 (ix1 b) :=
    num8_eq arg4 harg4 x2 _ _ b (by have h := k0_off53_eq i; rw [hb] at h; exact h)
  have s4 : num8 arg5 (harg5.unread x3) (k0_off53 i) (k0_off53_inb i) = x3 (ix1 b) :=
    num8_eq arg5 harg5 x3 _ _ b (by have h := k0_off53_eq i; rw [hb] at h; exact h)
  have z : (![0, 0] : Fin 2 → ℕ) = fun _ => 0 := by funext a; fin_cases a <;> rfl
  have w7 : View.readAt (Elt Ideal) arg9.view (Rect.unit (s := S64x3072) ![0, 0] S64x3072.size inb_S64x3072_S64x3072_0_0).toLoadRect (harg9.unread x7) = x7 := whole2 rfl arg9 harg9 x7 _ z _
  have w8 : View.readAt (Elt Ideal) arg10.view (Rect.unit (s := S64x1) ![0, 0] S64x1.size inb_S64x1_S64x1_0_0).toLoadRect (harg10.unread x8) = x8 := whole2 rfl arg10 harg10 x8 _ z _
  have w9 : View.readAt (Elt Ideal) arg11.view (Rect.unit (s := S64x1) ![0, 0] S64x1.size inb_S64x1_S64x1_0_0).toLoadRect (harg11.unread x9) = x9 := whole2 rfl arg11 harg11 x9 _ z _
  rw [s0, s1, s2, s3, s4, w7, w8, w9]
  funext i
  obtain ⟨u, g, y, l, rfl⟩ : ∃ (u : Fin 1) (g y : Fin 16) (l : Fin 128), i = ix4 u g y l := ⟨i 0, i 1, i 2, i 3, eq_ix4 i⟩
  refine (lat_canon _ _ _ u g y l).trans ?_
  rw [latIn_apply]
  exact congrArg (fun e => x10 (ix4 0 g y l) + (x3 (ix1 b) - x2 (ix1 b)) * e) (img_apply arg15 arg20 _ _ (codesBlk_A c _ b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10) x7 x8 x9 (fun h => x0 (ix1 (at16 h b))) (x1 (ix1 b)) g y l)

/-- The gain rows left. -/
theorem sout0_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = gainBlk b x0 x6 := by
  unfold sout0_A_0
  rw [View.read_writes_junk_eq_canon, gain_A]
  have e0 : num16 arg2 (harg2.unread x0) (k0_off1 i 0#32) (offA_inb i hc0 0) = x0 (ix1 (at16 0 b)) :=
    num16_eq arg2 harg2 x0 _ _ 0 b (by have h := k0_off1_eq i 0; rw [hb] at h; exact h)
  have e1 : num16 arg2 (harg2.unread x0) (k0_off1 i 8#32) (offA_inb i hc0 1) = x0 (ix1 (at16 1 b)) :=
    num16_eq arg2 harg2 x0 _ _ 1 b (by have h := k0_off1_eq i 1; rw [hb] at h; exact h)
  rw [e0, e1, gain_canon]

/-- The offset rows left. -/
theorem sout1_A (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 = offsetBlk b x0 x5 := by
  unfold sout0_A_1
  rw [View.read_writes_junk_eq_canon, offset_A]
  have e0 : num16 arg2 (harg2.unread x0) (k0_off1 i 0#32) (offA_inb i hc0 0) = x0 (ix1 (at16 0 b)) :=
    num16_eq arg2 harg2 x0 _ _ 0 b (by have h := k0_off1_eq i 0; rw [hb] at h; exact h)
  have e1 : num16 arg2 (harg2.unread x0) (k0_off1 i 8#32) (offA_inb i hc0 1) = x0 (ix1 (at16 1 b)) :=
    num16_eq arg2 harg2 x0 _ _ 1 b (by have h := k0_off1_eq i 1; rw [hb] at h; exact h)
  rw [e0, e1, offset_canon]

/-- The codes the loop leaves, the rows kept. -/
theorem codesBlk_B (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) (xs0 xs1 : Vec Ideal S2x8x3072 .f32) :
    View.canon (loopB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xs0 xs1).1 = (codeBlk x4 xs0 xs1) := by
  have hd := loop_codes Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (harg6.unread x4) (harg17.unread xs0) (harg18.unread xs1) k0_t1_loop.trips le_rfl
  refine (funext fun y => hd.canon y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1 y)).trans ?_
  rw [harg6.read_unread, harg17.read_unread, harg18.read_unread]

/-- The running maxima the loop leaves, the rows kept. -/
theorem rowsBlk_B (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) (xs0 xs1 : Vec Ideal S2x8x3072 .f32) :
    View.canon (loopB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 xs0 xs1).2 = (amaxBlk x4 xs0 xs1) := by
  refine (loop_rows c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _).trans ?_
  rw [harg6.read_unread, harg17.read_unread, harg18.read_unread]

/-- The codes left, the rows kept. -/
theorem out13_B (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) (xs0 xs1 : Vec Ideal S2x8x3072 .f32) :
    out0_B_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1 = (codeBlk x4 xs0 xs1) := by
  unfold out0_B_13
  rw [View.read_writes_junk_eq_canon, codes_B]
  exact codesBlk_B c i b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1

/-- The row magnitudes left, the rows kept. -/
theorem out14_B (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) (xs0 xs1 : Vec Ideal S2x8x3072 .f32) :
    out0_B_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1 = amaxF (amaxBlk x4 xs0 xs1) b x0 := by
  unfold out0_B_14
  rw [View.read_writes_junk_eq_canon, amax_B]
  have s0 : num16 arg2 (harg2.unread x0) (k0_off52 i 0#32) (k0_off52_inb i 0) = x0 (ix1 (at16 0 b)) :=
    num16_eq arg2 harg2 x0 _ _ 0 b (by have h := k0_off52_eq i 0; rw [hb] at h; exact h)
  have s1 : num16 arg2 (harg2.unread x0) (k0_off52 i 8#32) (k0_off52_inb i 1) = x0 (ix1 (at16 1 b)) :=
    num16_eq arg2 harg2 x0 _ _ 1 b (by have h := k0_off52_eq i 1; rw [hb] at h; exact h)
  rw [s0, s1]
  funext i
  obtain ⟨h, u, v, r, rfl⟩ : ∃ (h : Fin 2) (u v : Fin 1) (r : Fin 512), i = ix4 h u v r := ⟨i 0, i 1, i 2, i 3, eq_ix4 i⟩
  exact amax_apply arg19 _ _ (rowsBlk_B c _ b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1) (fun h => x0 (ix1 (at16 h b))) h u v r

/-- The image of velocities left, the rows kept. -/
theorem out12_B (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) (xs0 xs1 : Vec Ideal S2x8x3072 .f32) :
    out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1 = velF (codeBlk x4 xs0 xs1) b x0 x1 x7 x8 x9 := by
  unfold out0_B_12
  rw [View.read_writes_junk_eq_canon, vel_B]
  have s0 : num16 arg2 (harg2.unread x0) (k0_off52 i 0#32) (k0_off52_inb i 0) = x0 (ix1 (at16 0 b)) :=
    num16_eq arg2 harg2 x0 _ _ 0 b (by have h := k0_off52_eq i 0; rw [hb] at h; exact h)
  have s1 : num16 arg2 (harg2.unread x0) (k0_off52 i 8#32) (k0_off52_inb i 1) = x0 (ix1 (at16 1 b)) :=
    num16_eq arg2 harg2 x0 _ _ 1 b (by have h := k0_off52_eq i 1; rw [hb] at h; exact h)
  have s2 : num8 arg3 (harg3.unread x1) (k0_off53 i) (k0_off53_inb i) = x1 (ix1 b) :=
    num8_eq arg3 harg3 x1 _ _ b (by have h := k0_off53_eq i; rw [hb] at h; exact h)
  have z : (![0, 0] : Fin 2 → ℕ) = fun _ => 0 := by funext a; fin_cases a <;> rfl
  have w7 : View.readAt (Elt Ideal) arg9.view (Rect.unit (s := S64x3072) ![0, 0] S64x3072.size inb_S64x3072_S64x3072_0_0).toLoadRect (harg9.unread x7) = x7 := whole2 rfl arg9 harg9 x7 _ z _
  have w8 : View.readAt (Elt Ideal) arg10.view (Rect.unit (s := S64x1) ![0, 0] S64x1.size inb_S64x1_S64x1_0_0).toLoadRect (harg10.unread x8) = x8 := whole2 rfl arg10 harg10 x8 _ z _
  have w9 : View.readAt (Elt Ideal) arg11.view (Rect.unit (s := S64x1) ![0, 0] S64x1.size inb_S64x1_S64x1_0_0).toLoadRect (harg11.unread x9) = x9 := whole2 rfl arg11 harg11 x9 _ z _
  rw [s0, s1, s2, w7, w8, w9]
  funext i
  obtain ⟨u, g, y, l, rfl⟩ : ∃ (u : Fin 1) (g y : Fin 16) (l : Fin 128), i = ix4 u g y l := ⟨i 0, i 1, i 2, i 3, eq_ix4 i⟩
  exact (vel_canon _ u g y l).trans (img_apply arg15 arg20 _ _ (codesBlk_B c _ b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1) x7 x8 x9 (fun h => x0 (ix1 (at16 h b))) (x1 (ix1 b)) g y l)

/-- The new latent left, the rows kept. -/
theorem out11_B (c : Dev nD) (i : grid0.Coords) (b : Fin 8) (hb : (i 0).val = b.val) (arg2 : Memref sig .tc .smem S16 .f32) (harg2 : arg2.IsWhole) (arg3 : Memref sig .tc .smem S8 .f32) (harg3 : arg3.IsWhole) (arg4 : Memref sig .tc .smem S8 .f32) (harg4 : arg4.IsWhole) (arg5 : Memref sig .tc .smem S8 .f32) (harg5 : arg5.IsWhole) (arg6 : Memref sig .tc .vmem S2x1x512x3072 .bf16) (harg6 : arg6.IsWhole) (arg7 : Memref sig .tc .vmem S2x1x1x3072 .f32) (harg7 : arg7.IsWhole) (arg8 : Memref sig .tc .vmem S2x1x1x3072 .f32) (harg8 : arg8.IsWhole) (arg9 : Memref sig .tc .vmem S64x3072 .fp8e4m3) (harg9 : arg9.IsWhole) (arg10 : Memref sig .tc .vmem S64x1 .f32) (harg10 : arg10.IsWhole) (arg11 : Memref sig .tc .vmem S64x1 .f32) (harg11 : arg11.IsWhole) (arg12 : Memref sig .tc .vmem S1x16x16x128 .f32) (harg12 : arg12.IsWhole) (arg13 : Memref sig .tc .vmem S1x16x16x128 .f32) (harg13 : arg13.IsWhole) (arg14 : Memref sig .tc .vmem S1x16x16x128 .bf16) (harg14 : arg14.IsWhole) (arg15 : Memref sig .tc .vmem S2x1x512x3072 .fp8e4m3) (harg15 : arg15.IsWhole) (arg16 : Memref sig .tc .vmem S2x1x1x512 .f32) (harg16 : arg16.IsWhole) (arg17 : Memref sig .tc .vmem S2x8x3072 .f32) (harg17 : arg17.IsWhole) (arg18 : Memref sig .tc .vmem S2x8x3072 .f32) (harg18 : arg18.IsWhole) (arg19 : Memref sig .tc .vmem S2x512x128 .f32) (harg19 : arg19.IsWhole) (arg20 : Memref sig .tc .vmem S272x128 .f32) (harg20 : arg20.IsWhole) (hc0 : ¬cond0_0 i) (x0 : Vec Ideal S16 .f32) (x1 x2 x3 : Vec Ideal S8 .f32) (x4 : Vec Ideal S2x1x512x3072 .bf16) (x5 x6 : Vec Ideal S2x1x1x3072 .f32) (x7 : Vec Ideal S64x3072 .fp8e4m3) (x8 x9 : Vec Ideal S64x1 .f32) (x10 : Vec Ideal S1x16x16x128 .f32) (xs0 xs1 : Vec Ideal S2x8x3072 .f32) :
    out0_B_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1 = latF (codeBlk x4 xs0 xs1) b x0 x1 x2 x3 x7 x8 x9 x10 := by
  unfold out0_B_11
  rw [View.read_writes_junk_eq_canon, lat_B]
  have s0 : num16 arg2 (harg2.unread x0) (k0_off52 i 0#32) (k0_off52_inb i 0) = x0 (ix1 (at16 0 b)) :=
    num16_eq arg2 harg2 x0 _ _ 0 b (by have h := k0_off52_eq i 0; rw [hb] at h; exact h)
  have s1 : num16 arg2 (harg2.unread x0) (k0_off52 i 8#32) (k0_off52_inb i 1) = x0 (ix1 (at16 1 b)) :=
    num16_eq arg2 harg2 x0 _ _ 1 b (by have h := k0_off52_eq i 1; rw [hb] at h; exact h)
  have s2 : num8 arg3 (harg3.unread x1) (k0_off53 i) (k0_off53_inb i) = x1 (ix1 b) :=
    num8_eq arg3 harg3 x1 _ _ b (by have h := k0_off53_eq i; rw [hb] at h; exact h)
  have s3 : num8 arg4 (harg4.unread x2) (k0_off53 i) (k0_off53_inb i) = x2 (ix1 b) :=
    num8_eq arg4 harg4 x2 _ _ b (by have h := k0_off53_eq i; rw [hb] at h; exact h)
  have s4 : num8 arg5 (harg5.unread x3) (k0_off53 i) (k0_off53_inb i) = x3 (ix1 b) :=
    num8_eq arg5 harg5 x3 _ _ b (by have h := k0_off53_eq i; rw [hb] at h; exact h)
  have z : (![0, 0] : Fin 2 → ℕ) = fun _ => 0 := by funext a; fin_cases a <;> rfl
  have w7 : View.readAt (Elt Ideal) arg9.view (Rect.unit (s := S64x3072) ![0, 0] S64x3072.size inb_S64x3072_S64x3072_0_0).toLoadRect (harg9.unread x7) = x7 := whole2 rfl arg9 harg9 x7 _ z _
  have w8 : View.readAt (Elt Ideal) arg10.view (Rect.unit (s := S64x1) ![0, 0] S64x1.size inb_S64x1_S64x1_0_0).toLoadRect (harg10.unread x8) = x8 := whole2 rfl arg10 harg10 x8 _ z _
  have w9 : View.readAt (Elt Ideal) arg11.view (Rect.unit (s := S64x1) ![0, 0] S64x1.size inb_S64x1_S64x1_0_0).toLoadRect (harg11.unread x9) = x9 := whole2 rfl arg11 harg11 x9 _ z _
  rw [s0, s1, s2, s3, s4, w7, w8, w9]
  funext i
  obtain ⟨u, g, y, l, rfl⟩ : ∃ (u : Fin 1) (g y : Fin 16) (l : Fin 128), i = ix4 u g y l := ⟨i 0, i 1, i 2, i 3, eq_ix4 i⟩
  refine (lat_canon _ _ _ u g y l).trans ?_
  rw [latIn_apply]
  exact congrArg (fun e => x10 (ix4 0 g y l) + (x3 (ix1 b) - x2 (ix1 b)) * e) (img_apply arg15 arg20 _ _ (codesBlk_B c _ b hb arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 xs0 xs1) x7 x8 x9 (fun h => x0 (ix1 (at16 h b))) (x1 (ix1 b)) g y l)

end Cert.Proof.Point

end
-- ==== Proof.Sweep.lean ====
/-
  The kernel's arrays: the block each grid point reads as indices of the arguments.
-/
module

public import proofs.«01_k».proof.Proof.Point
public import Idealize.ShloMosaic.Lib.StableHlo.RunRead
public import Idealize.ShloMosaic.Lib.StableHlo.ReadAt

@[expose] public section

set_option maxRecDepth 16384
set_option maxHeartbeats 1000000

noncomputable section

namespace Cert.Proof.Sweep

open Cert.KernelIdeal Cert.KernelIdeal.Gen Idealize.ShloMosaic Idealize.ShloMosaic.TcCoe
open Cert.Proof.RowMath Cert.Proof.Block Cert.Proof.Coef

variable (m : (ℓ : Loc nD τ sig) → Buf (Elt Ideal) ℓ) (c : Dev nD)

/-- The rows of activations. -/
abbrev aX : Vec Ideal S16x6144x3072 .bf16 := m ((c : Thread nD τ).loc main_arg0)
/-- The shifts. -/
abbrev aShift : Vec Ideal S16x3072 .f32 := m ((c : Thread nD τ).loc main_arg1)
/-- The scales. -/
abbrev aScale : Vec Ideal S16x3072 .f32 := m ((c : Thread nD τ).loc main_arg2)
/-- The weights' codes. -/
abbrev aW : Vec Ideal S3072x64 .fp8e4m3 := m ((c : Thread nD τ).loc main_arg3)
/-- The weights' scales. -/
abbrev aWs : Vec Ideal S64 .f32 := m ((c : Thread nD τ).loc main_arg4)
/-- The bias. -/
abbrev aBias : Vec Ideal S64 .f32 := m ((c : Thread nD τ).loc main_arg5)
/-- The guidance. -/
abbrev aGuid : Vec Ideal S8 .f32 := m ((c : Thread nD τ).loc main_arg6)
/-- The time. -/
abbrev aT : Vec Ideal S8 .f32 := m ((c : Thread nD τ).loc main_arg7)
/-- The next time. -/
abbrev aTn : Vec Ideal S8 .f32 := m ((c : Thread nD τ).loc main_arg8)
/-- The latent. -/
abbrev aLat : Vec Ideal S8x16x192x128 .f32 := m ((c : Thread nD τ).loc main_arg9)
/-- The static scales of the activations. -/
abbrev aXs : Vec Ideal S16 .f32 := m ((c : Thread nD τ).loc main_arg10)

/-! ## What the host operations leave -/

/-- The activations, their rows split in two halves of eight. -/
theorem V_v0 : V m c main_v0 = shapeCast S2x8x6144x3072 (aX m c) shapeCasts_S16x6144x3072_S2x8x6144x3072 := by
  unfold V
  after_reads_simp
  rfl

/-- The shifts, split likewise. -/
theorem V_v1 : V m c main_v1 = shapeCast S2x8x1x3072 (aShift m c) shapeCasts_S16x3072_S2x8x1x3072 := by
  unfold V
  after_reads_simp
  rfl

/-- The scales, split likewise. -/
theorem V_v2 : V m c main_v2 = shapeCast S2x8x1x3072 (aScale m c) shapeCasts_S16x3072_S2x8x1x3072 := by
  unfold V
  after_reads_simp
  rfl

/-- The weights' codes, transposed. -/
theorem V_v3 : V m c main_v3 = transpose S64x3072 [1, 0] (aW m c) transposes_S3072x64_S64x3072_1_0 := by
  unfold V
  after_reads_simp

/-- The weights' scales as a column. -/
theorem V_v4 : V m c main_v4 = shapeCast S64x1 (aWs m c) shapeCasts_S64_S64x1 := by
  unfold V
  after_reads_simp
  rfl

/-- The bias as a column. -/
theorem V_v5 : V m c main_v5 = shapeCast S64x1 (aBias m c) shapeCasts_S64_S64x1 := by
  unfold V
  after_reads_simp
  rfl

/-- The split activations at an index. -/
theorem v0_apply (h : Fin 2) (b : Fin 8) (s : Fin 6144) (d : Fin 3072) :
    (V m c main_v0 : Vec Ideal S2x8x6144x3072 .bf16) (ix4 h b s d) = aX m c (ix3 (at16 h b) s d) := by
  rw [V_v0]
  exact shapeCast_apply _ _ _ _ (by rw [Shape.rowMajor_val_three, Shape.rowMajor_val_four]; simp [ix3, ix4, S16x6144x3072, S2x8x6144x3072]; omega)

/-- The split shifts at an index. -/
theorem v1_apply (h : Fin 2) (b : Fin 8) (u : Fin 1) (d : Fin 3072) :
    (V m c main_v1 : Vec Ideal S2x8x1x3072 .f32) (ix4 h b u d) = aShift m c (ix2 (at16 h b) d) := by
  rw [V_v1]
  exact shapeCast_apply _ _ _ _ (by rw [Shape.rowMajor_val_two, Shape.rowMajor_val_four]; simp [ix2, ix4, S16x3072, S2x8x1x3072]; omega)

/-- The split scales at an index. -/
theorem v2_apply (h : Fin 2) (b : Fin 8) (u : Fin 1) (d : Fin 3072) :
    (V m c main_v2 : Vec Ideal S2x8x1x3072 .f32) (ix4 h b u d) = aScale m c (ix2 (at16 h b) d) := by
  rw [V_v2]
  exact shapeCast_apply _ _ _ _ (by rw [Shape.rowMajor_val_two, Shape.rowMajor_val_four]; simp [ix2, ix4, S16x3072, S2x8x1x3072]; omega)

/-- The transposed weights at an index. -/
theorem v3_apply (p : Fin 64) (d : Fin 3072) : (V m c main_v3 : Vec Ideal S64x3072 .fp8e4m3) (ix2 p d) = aW m c (ix2 d p) := by
  rw [V_v3]
  pointwise

/-- The weights' scales as a column at an index. -/
theorem v4_apply (p : Fin 64) (u : Fin 1) : (V m c main_v4 : Vec Ideal S64x1 .f32) (ix2 p u) = aWs m c (ix1 p) := by
  rw [V_v4]
  exact shapeCast_apply _ _ _ _ (by rw [Shape.rowMajor_val_one, Shape.rowMajor_val_two]; simp [ix1, ix2, S64, S64x1])

/-- The bias as a column at an index. -/
theorem v5_apply (p : Fin 64) (u : Fin 1) : (V m c main_v5 : Vec Ideal S64x1 .f32) (ix2 p u) = aBias m c (ix1 p) := by
  rw [V_v5]
  exact shapeCast_apply _ _ _ _ (by rw [Shape.rowMajor_val_one, Shape.rowMajor_val_two]; simp [ix1, ix2, S64, S64x1])

/-! ## The blocks of a grid point -/

/-- The batch entry of a grid point. -/
abbrev bOf (t : Fin cfg0.N) : Fin 8 := ⟨t.val / 12, by have := t.isLt; have e : cfg0.N = 96 := N_0; omega⟩

/-- Row `r` of a grid point's block, among all rows. -/
abbrev rowT (t : Fin cfg0.N) (r : Fin 512) : Fin 6144 := ⟨512 * (t.val % 12) + r.val, by omega⟩

/-- The first coordinate of a grid point is its batch entry. -/
theorem coord0 (t : Fin cfg0.N) : ((grid0.coords t) 0).val = (bOf t).val :=
  (by decide +kernel : ∀ t : Fin grid0.N, ((grid0.coords t) 0).val = t.val / 12) t

/-- Where the window of argument 4 of the call stands at a grid point. -/
theorem idx4 (t : Fin cfg0.N) : win0_4.index t 0 = 0 ∧ win0_4.index t 1 = t.val / 12 ∧ win0_4.index t 2 = t.val % 12 ∧ win0_4.index t 3 = 0 :=
  (by decide +kernel : ∀ t : Fin grid0.N, win0_4.index t 0 = 0 ∧ win0_4.index t 1 = t.val / 12 ∧ win0_4.index t 2 = t.val % 12 ∧ win0_4.index t 3 = 0) t

/-- Where the window of argument 5 of the call stands at a grid point. -/
theorem idx5 (t : Fin cfg0.N) : win0_5.index t 0 = 0 ∧ win0_5.index t 1 = t.val / 12 ∧ win0_5.index t 2 = 0 ∧ win0_5.index t 3 = 0 :=
  (by decide +kernel : ∀ t : Fin grid0.N, win0_5.index t 0 = 0 ∧ win0_5.index t 1 = t.val / 12 ∧ win0_5.index t 2 = 0 ∧ win0_5.index t 3 = 0) t

/-- Where the window of argument 6 of the call stands at a grid point. -/
theorem idx6 (t : Fin cfg0.N) : win0_6.index t 0 = 0 ∧ win0_6.index t 1 = t.val / 12 ∧ win0_6.index t 2 = 0 ∧ win0_6.index t 3 = 0 :=
  (by decide +kernel : ∀ t : Fin grid0.N, win0_6.index t 0 = 0 ∧ win0_6.index t 1 = t.val / 12 ∧ win0_6.index t 2 = 0 ∧ win0_6.index t 3 = 0) t

/-- Where the window of argument 10 of the call stands at a grid point. -/
theorem idx10 (t : Fin cfg0.N) : win0_10.index t 0 = t.val / 12 ∧ win0_10.index t 1 = 0 ∧ win0_10.index t 2 = t.val % 12 ∧ win0_10.index t 3 = 0 :=
  (by decide +kernel : ∀ t : Fin grid0.N, win0_10.index t 0 = t.val / 12 ∧ win0_10.index t 1 = 0 ∧ win0_10.index t 2 = t.val % 12 ∧ win0_10.index t 3 = 0) t

/-- The block of activations at an index. -/
theorem iblk4_apply (t : Fin cfg0.N) (h : Fin 2) (u : Fin 1) (r : Fin 512) (d : Fin 3072) :
    (iblk m c 4 t : Vec Ideal S2x1x512x3072 .bf16) (ix4 h u r d) = aX m c (ix3 (at16 h (bOf t)) (rowT t r) d) := by
  rw [← v0_apply]
  refine congrArg (V m c main_v0 : Vec Ideal S2x8x6144x3072 .bf16) (?_ : ((cfg0.win 4).blk t).view.emb (ix4 h u r d) = ix4 h (bOf t) (rowT t r) d)
  obtain ⟨h0, h1, h2, h3⟩ := idx4 t
  have hu := u.isLt
  funext a
  apply Fin.ext
  fin_cases a
  · show win0_4.index t 0 * 2 + 1 * h.val = h.val; rw [h0]; omega
  · show win0_4.index t 1 * 1 + 1 * u.val = t.val / 12; rw [h1]; omega
  · show win0_4.index t 2 * 512 + 1 * r.val = 512 * (t.val % 12) + r.val; rw [h2]; omega
  · show win0_4.index t 3 * 3072 + 1 * d.val = d.val; rw [h3]; omega

/-- The block of shifts at an index. -/
theorem iblk5_apply (t : Fin cfg0.N) (h : Fin 2) (u v : Fin 1) (d : Fin 3072) :
    (iblk m c 5 t : Vec Ideal S2x1x1x3072 .f32) (ix4 h u v d) = aShift m c (ix2 (at16 h (bOf t)) d) := by
  rw [← v1_apply m c h (bOf t) 0]
  refine congrArg (V m c main_v1 : Vec Ideal S2x8x1x3072 .f32) (?_ : ((cfg0.win 5).blk t).view.emb (ix4 h u v d) = ix4 h (bOf t) 0 d)
  obtain ⟨h0, h1, h2, h3⟩ := idx5 t
  have hu := u.isLt
  have hv := v.isLt
  funext a
  apply Fin.ext
  fin_cases a
  · show win0_5.index t 0 * 2 + 1 * h.val = h.val; rw [h0]; omega
  · show win0_5.index t 1 * 1 + 1 * u.val = t.val / 12; rw [h1]; omega
  · show win0_5.index t 2 * 1 + 1 * v.val = 0; rw [h2]; omega
  · show win0_5.index t 3 * 3072 + 1 * d.val = d.val; rw [h3]; omega

/-- The block of scales at an index. -/
theorem iblk6_apply (t : Fin cfg0.N) (h : Fin 2) (u v : Fin 1) (d : Fin 3072) :
    (iblk m c 6 t : Vec Ideal S2x1x1x3072 .f32) (ix4 h u v d) = aScale m c (ix2 (at16 h (bOf t)) d) := by
  rw [← v2_apply m c h (bOf t) 0]
  refine congrArg (V m c main_v2 : Vec Ideal S2x8x1x3072 .f32) (?_ : ((cfg0.win 6).blk t).view.emb (ix4 h u v d) = ix4 h (bOf t) 0 d)
  obtain ⟨h0, h1, h2, h3⟩ := idx6 t
  have hu := u.isLt
  have hv := v.isLt
  funext a
  apply Fin.ext
  fin_cases a
  · show win0_6.index t 0 * 2 + 1 * h.val = h.val; rw [h0]; omega
  · show win0_6.index t 1 * 1 + 1 * u.val = t.val / 12; rw [h1]; omega
  · show win0_6.index t 2 * 1 + 1 * v.val = 0; rw [h2]; omega
  · show win0_6.index t 3 * 3072 + 1 * d.val = d.val; rw [h3]; omega

/-- The block of the latent at an index. -/
theorem iblk10_apply (t : Fin cfg0.N) (u : Fin 1) (g y : Fin 16) (l : Fin 128) :
    (iblk m c 10 t : Vec Ideal S1x16x16x128 .f32) (ix4 u g y l) = aLat m c (ix4 (bOf t) g ⟨16 * (t.val % 12) + y.val, by omega⟩ l) := by
  have e : (V m c main_arg9 : Vec Ideal S8x16x192x128 .f32) = aLat m c := V_main_arg9 m c
  rw [← e]
  refine congrArg (V m c main_arg9 : Vec Ideal S8x16x192x128 .f32) (?_ : ((cfg0.win 10).blk t).view.emb (ix4 u g y l) = ix4 (bOf t) g _ l)
  obtain ⟨h0, h1, h2, h3⟩ := idx10 t
  have hu := u.isLt
  funext a
  apply Fin.ext
  fin_cases a
  · show win0_10.index t 0 * 1 + 1 * u.val = t.val / 12; rw [h0]; omega
  · show win0_10.index t 1 * 16 + 1 * g.val = g.val; rw [h1]; omega
  · show win0_10.index t 2 * 16 + 1 * y.val = 16 * (t.val % 12) + y.val; rw [h2]; omega
  · show win0_10.index t 3 * 128 + 1 * l.val = l.val; rw [h3]; omega

/-- Where the window of argument 0 of the call stands at a grid point. -/
theorem idx0 (t : Fin cfg0.N) : win0_0.index t 0 = 0 :=
  (by decide +kernel : ∀ t : Fin grid0.N, win0_0.index t 0 = 0) t

/-- The block of the static scales is all of them. -/
theorem iblk0_eq (t : Fin cfg0.N) : (iblk m c 0 t : Vec Ideal S16 .f32) = aXs m c := by
  have e : (V m c main_arg10 : Vec Ideal S16 .f32) = aXs m c := V_main_arg10 m c
  rw [← e]
  funext y
  refine congrArg (V m c main_arg10 : Vec Ideal S16 .f32) (?_ : ((cfg0.win 0).blk t).view.emb y = y)
  funext a
  apply Fin.ext
  fin_cases a
  show win0_0.index t 0 * 16 + 1 * (y 0).val = (y 0).val; rw [idx0 t]; omega

/-- Where the window of argument 1 of the call stands at a grid point. -/
theorem idx1 (t : Fin cfg0.N) : win0_1.index t 0 = 0 :=
  (by decide +kernel : ∀ t : Fin grid0.N, win0_1.index t 0 = 0) t

/-- The block of the guidance is all of them. -/
theorem iblk1_eq (t : Fin cfg0.N) : (iblk m c 1 t : Vec Ideal S8 .f32) = aGuid m c := by
  have e : (V m c main_arg6 : Vec Ideal S8 .f32) = aGuid m c := V_main_arg6 m c
  rw [← e]
  funext y
  refine congrArg (V m c main_arg6 : Vec Ideal S8 .f32) (?_ : ((cfg0.win 1).blk t).view.emb y = y)
  funext a
  apply Fin.ext
  fin_cases a
  show win0_1.index t 0 * 8 + 1 * (y 0).val = (y 0).val; rw [idx1 t]; omega

/-- Where the window of argument 2 of the call stands at a grid point. -/
theorem idx2 (t : Fin cfg0.N) : win0_2.index t 0 = 0 :=
  (by decide +kernel : ∀ t : Fin grid0.N, win0_2.index t 0 = 0) t

/-- The block of the time is all of them. -/
theorem iblk2_eq (t : Fin cfg0.N) : (iblk m c 2 t : Vec Ideal S8 .f32) = aT m c := by
  have e : (V m c main_arg7 : Vec Ideal S8 .f32) = aT m c := V_main_arg7 m c
  rw [← e]
  funext y
  refine congrArg (V m c main_arg7 : Vec Ideal S8 .f32) (?_ : ((cfg0.win 2).blk t).view.emb y = y)
  funext a
  apply Fin.ext
  fin_cases a
  show win0_2.index t 0 * 8 + 1 * (y 0).val = (y 0).val; rw [idx2 t]; omega

/-- Where the window of argument 3 of the call stands at a grid point. -/
theorem idx3 (t : Fin cfg0.N) : win0_3.index t 0 = 0 :=
  (by decide +kernel : ∀ t : Fin grid0.N, win0_3.index t 0 = 0) t

/-- The block of the next time is all of them. -/
theorem iblk3_eq (t : Fin cfg0.N) : (iblk m c 3 t : Vec Ideal S8 .f32) = aTn m c := by
  have e : (V m c main_arg8 : Vec Ideal S8 .f32) = aTn m c := V_main_arg8 m c
  rw [← e]
  funext y
  refine congrArg (V m c main_arg8 : Vec Ideal S8 .f32) (?_ : ((cfg0.win 3).blk t).view.emb y = y)
  funext a
  apply Fin.ext
  fin_cases a
  show win0_3.index t 0 * 8 + 1 * (y 0).val = (y 0).val; rw [idx3 t]; omega

/-- Where the window of argument 7 of the call stands at a grid point. -/
theorem idx7 (t : Fin cfg0.N) : win0_7.index t 0 = 0 ∧ win0_7.index t 1 = 0 :=
  (by decide +kernel : ∀ t : Fin grid0.N, win0_7.index t 0 = 0 ∧ win0_7.index t 1 = 0) t

/-- The block of the weights is all of them. -/
theorem iblk7_eq (t : Fin cfg0.N) : (iblk m c 7 t : Vec Ideal S64x3072 .fp8e4m3) = V m c main_v3 := by
  funext y
  refine congrArg (V m c main_v3 : Vec Ideal S64x3072 .fp8e4m3) (?_ : ((cfg0.win 7).blk t).view.emb y = y)
  obtain ⟨h0, h1⟩ := idx7 t
  funext a
  apply Fin.ext
  fin_cases a
  · show win0_7.index t 0 * 64 + 1 * (y 0).val = (y 0).val; rw [h0]; omega
  · show win0_7.index t 1 * 3072 + 1 * (y 1).val = (y 1).val; rw [h1]; omega

/-- Where the window of argument 8 of the call stands at a grid point. -/
theorem idx8 (t : Fin cfg0.N) : win0_8.index t 0 = 0 ∧ win0_8.index t 1 = 0 :=
  (by decide +kernel : ∀ t : Fin grid0.N, win0_8.index t 0 = 0 ∧ win0_8.index t 1 = 0) t

/-- The block of the weights' scales is all of them. -/
theorem iblk8_eq (t : Fin cfg0.N) : (iblk m c 8 t : Vec Ideal S64x1 .f32) = V m c main_v4 := by
  funext y
  refine congrArg (V m c main_v4 : Vec Ideal S64x1 .f32) (?_ : ((cfg0.win 8).blk t).view.emb y = y)
  obtain ⟨h0, h1⟩ := idx8 t
  funext a
  apply Fin.ext
  fin_cases a
  · show win0_8.index t 0 * 64 + 1 * (y 0).val = (y 0).val; rw [h0]; omega
  · show win0_8.index t 1 * 1 + 1 * (y 1).val = (y 1).val; rw [h1]; omega

/-- Where the window of argument 9 of the call stands at a grid point. -/
theorem idx9 (t : Fin cfg0.N) : win0_9.index t 0 = 0 ∧ win0_9.index t 1 = 0 :=
  (by decide +kernel : ∀ t : Fin grid0.N, win0_9.index t 0 = 0 ∧ win0_9.index t 1 = 0) t

/-- The block of the bias is all of them. -/
theorem iblk9_eq (t : Fin cfg0.N) : (iblk m c 9 t : Vec Ideal S64x1 .f32) = V m c main_v5 := by
  funext y
  refine congrArg (V m c main_v5 : Vec Ideal S64x1 .f32) (?_ : ((cfg0.win 9).blk t).view.emb y = y)
  obtain ⟨h0, h1⟩ := idx9 t
  funext a
  apply Fin.ext
  fin_cases a
  · show win0_9.index t 0 * 64 + 1 * (y 0).val = (y 0).val; rw [h0]; omega
  · show win0_9.index t 1 * 1 + 1 * (y 1).val = (y 1).val; rw [h1]; omega

end Cert.Proof.Sweep

end
-- ==== Proof.Carry.lean ====
/-
  What the kernel leaves after each grid point, over the extended reals: the gain and offset rows are those of the
  point's batch entry at every point, recomputed or carried, so the outputs' blocks are one function of the point.
-/
module

public import proofs.«01_k».proof.Proof.Sweep

@[expose] public section

set_option maxRecDepth 16384
set_option maxHeartbeats 200000

noncomputable section

namespace Cert.Proof.Carry

open Cert.KernelIdeal Cert.KernelIdeal.Gen Idealize.ShloMosaic Idealize.ShloMosaic.TcCoe
open Cert.Proof.RowMath Cert.Proof.Block Cert.Proof.Coef Cert.Proof.Point Cert.Proof.Sweep

variable (m : (ℓ : Loc nD τ sig) → Buf (Elt Ideal) ℓ) (c : Dev nD)

/-- The gain rows of batch entry `b`, from the arguments. -/
def gainA (b : Fin 8) : Vec Ideal S2x8x3072 .f32 := fun i =>
  (1 + aScale m c (ix2 (at16 (i 0) b) (i 2))) * Ideal.div 1 (aXs m c (ix1 (at16 (i 0) b)))

/-- The offset rows of batch entry `b`, from the arguments. -/
def offsetA (b : Fin 8) : Vec Ideal S2x8x3072 .f32 := fun i =>
  aShift m c (ix2 (at16 (i 0) b) (i 2)) * Ideal.div 1 (aXs m c (ix1 (at16 (i 0) b)))

/-- The gain rows a point recomputes are its batch entry's. -/
theorem gain_eq (t : Fin cfg0.N) : gainBlk (bOf t) (iblk m c 0 t) (iblk m c 6 t) = gainA m c (bOf t) := by
  funext i
  obtain ⟨h, r, d, rfl⟩ : ∃ (h : Fin 2) (r : Fin 8) (d : Fin 3072), i = ix3 h r d := ⟨i 0, i 1, i 2, eq_ix3 i⟩
  rw [iblk0_eq]
  exact congrArg (fun e => (1 + e) * Ideal.div 1 (aXs m c (ix1 (at16 h (bOf t))))) (iblk6_apply m c t h 0 0 d)

/-- The offset rows a point recomputes are its batch entry's. -/
theorem offset_eq (t : Fin cfg0.N) : offsetBlk (bOf t) (iblk m c 0 t) (iblk m c 5 t) = offsetA m c (bOf t) := by
  funext i
  obtain ⟨h, r, d, rfl⟩ : ∃ (h : Fin 2) (r : Fin 8) (d : Fin 3072), i = ix3 h r d := ⟨i 0, i 1, i 2, eq_ix3 i⟩
  rw [iblk0_eq]
  exact congrArg (fun e => e * Ideal.div 1 (aXs m c (ix1 (at16 h (bOf t))))) (iblk5_apply m c t h 0 0 d)

/-- A point that recomputes the gain rows leaves its batch entry's. -/
theorem gain_after (t : Fin cfg0.N) (h0 : t.val % 12 = 0) : (outsAt0 m c t.val t.isLt).2.2.2.2.1 = gainA m c (bOf t) := by
  have e := sout0_A c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  rw [gain_eq] at e
  rw [outsAt0_A m c t h0]
  dsimp only
  exact e

/-- A point that recomputes the offset rows leaves its batch entry's. -/
theorem offset_after (t : Fin cfg0.N) (h0 : t.val % 12 = 0) : (outsAt0 m c t.val t.isLt).2.2.2.2.2 = offsetA m c (bOf t) := by
  have e := sout1_A c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
  rw [offset_eq] at e
  rw [outsAt0_A m c t h0]
  dsimp only
  exact e

/-- A point that keeps the rows leaves what the point before left. -/
theorem passed (t : Fin cfg0.N) (h0 : ¬t.val % 12 = 0) :
    (outsAt0 m c t.val t.isLt).2.2.2.2.1 = (outsAt0 m c (t.val - 1) (Nat.lt_of_le_of_lt (Nat.sub_le _ _) t.isLt)).2.2.2.2.1
    ∧ (outsAt0 m c t.val t.isLt).2.2.2.2.2 = (outsAt0 m c (t.val - 1) (Nat.lt_of_le_of_lt (Nat.sub_le _ _) t.isLt)).2.2.2.2.2 :=
  ⟨congrArg (fun o => o.2.2.2.2.1) (outsAt0_B m c t h0), congrArg (fun o => o.2.2.2.2.2) (outsAt0_B m c t h0)⟩

/-- After every point the carried rows are its batch entry's. -/
theorem carried (n : ℕ) : ∀ hn : n < cfg0.N, (outsAt0 m c n hn).2.2.2.2.1 = gainA m c (bOf ⟨n, hn⟩)
    ∧ (outsAt0 m c n hn).2.2.2.2.2 = offsetA m c (bOf ⟨n, hn⟩) := by
  induction n with
  | zero => exact fun hn => ⟨gain_after m c ⟨0, hn⟩ rfl, offset_after m c ⟨0, hn⟩ rfl⟩
  | succ n ih =>
    intro hn
    by_cases h0 : (n + 1) % 12 = 0
    · exact ⟨gain_after m c ⟨n + 1, hn⟩ h0, offset_after m c ⟨n + 1, hn⟩ h0⟩
    · obtain ⟨h1, h2⟩ := ih (Nat.lt_of_succ_lt hn)
      obtain ⟨p1, p2⟩ := passed m c ⟨n + 1, hn⟩ h0
      have e : bOf ⟨n + 1, hn⟩ = bOf ⟨n, Nat.lt_of_succ_lt hn⟩ := Fin.ext (by show (n + 1) / 12 = n / 12; omega)
      rw [e]
      exact ⟨p1.trans h1, p2.trans h2⟩

/-- The codes after a point. -/
abbrev codesT (t : Fin cfg0.N) : Vec Ideal S2x1x512x3072 .fp8e4m3 := codeBlk (iblk m c 4 t) (gainA m c (bOf t)) (offsetA m c (bOf t))

/-- The running maxima after a point. -/
abbrev rowsT (t : Fin cfg0.N) : Vec Ideal S2x512x128 .f32 := amaxBlk (iblk m c 4 t) (gainA m c (bOf t)) (offsetA m c (bOf t))

/-- What the point before left of the carried rows, at a point that keeps them. -/
theorem kept (t : Fin cfg0.N) (h0 : ¬t.val % 12 = 0) :
    (outsAt0 m c (t.val - 1) (Nat.lt_of_le_of_lt (Nat.sub_le _ _) t.isLt)).2.2.2.2.1 = gainA m c (bOf t)
    ∧ (outsAt0 m c (t.val - 1) (Nat.lt_of_le_of_lt (Nat.sub_le _ _) t.isLt)).2.2.2.2.2 = offsetA m c (bOf t) := by
  obtain ⟨h1, h2⟩ := carried m c (t.val - 1) (Nat.lt_of_le_of_lt (Nat.sub_le _ _) t.isLt)
  have e : bOf ⟨t.val - 1, Nat.lt_of_le_of_lt (Nat.sub_le _ _) t.isLt⟩ = bOf t := Fin.ext (by show (t.val - 1) / 12 = t.val / 12; omega)
  rw [h1, h2, e]
  exact ⟨rfl, rfl⟩

/-- The codes left after a point. -/
theorem after13 (t : Fin cfg0.N) :
    (outsAt0 m c t.val t.isLt).2.2.1 = codesT m c t := by
  by_cases h0 : t.val % 12 = 0
  · have e := out13_A c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
    rw [gain_eq, offset_eq] at e
    rw [outsAt0_A m c t h0]
    dsimp only
    exact e
  · have e := out13_B c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    rw [(kept m c t h0).1, (kept m c t h0).2] at e
    rw [outsAt0_B m c t h0, (kept m c t h0).1, (kept m c t h0).2]
    dsimp only
    exact e

/-- The row magnitudes left after a point. -/
theorem after14 (t : Fin cfg0.N) :
    (outsAt0 m c t.val t.isLt).2.2.2.1 = amaxF (rowsT m c t) (bOf t) (iblk m c 0 t) := by
  by_cases h0 : t.val % 12 = 0
  · have e := out14_A c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
    rw [gain_eq, offset_eq] at e
    rw [outsAt0_A m c t h0]
    dsimp only
    exact e
  · have e := out14_B c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    rw [(kept m c t h0).1, (kept m c t h0).2] at e
    rw [outsAt0_B m c t h0, (kept m c t h0).1, (kept m c t h0).2]
    dsimp only
    exact e

/-- The image of velocities left after a point. -/
theorem after12 (t : Fin cfg0.N) :
    (outsAt0 m c t.val t.isLt).2.1 = velF (codesT m c t) (bOf t) (iblk m c 0 t) (iblk m c 1 t) (iblk m c 7 t) (iblk m c 8 t) (iblk m c 9 t) := by
  by_cases h0 : t.val % 12 = 0
  · have e := out12_A c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
    rw [gain_eq, offset_eq] at e
    rw [outsAt0_A m c t h0]
    dsimp only
    exact e
  · have e := out12_B c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    rw [(kept m c t h0).1, (kept m c t h0).2] at e
    rw [outsAt0_B m c t h0, (kept m c t h0).1, (kept m c t h0).2]
    dsimp only
    exact e

/-- The new latent left after a point. -/
theorem after11 (t : Fin cfg0.N) :
    (outsAt0 m c t.val t.isLt).1 = latF (codesT m c t) (bOf t) (iblk m c 0 t) (iblk m c 1 t) (iblk m c 2 t) (iblk m c 3 t) (iblk m c 7 t) (iblk m c 8 t) (iblk m c 9 t) (iblk m c 10 t) := by
  by_cases h0 : t.val % 12 = 0
  · have e := out11_A c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t)
    rw [gain_eq, offset_eq] at e
    rw [outsAt0_A m c t h0]
    dsimp only
    exact e
  · have e := out11_B c (grid0.coords t) (bOf t) (coord0 t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    rw [(kept m c t h0).1, (kept m c t h0).2] at e
    rw [outsAt0_B m c t h0, (kept m c t h0).1, (kept m c t h0).2]
    dsimp only
    exact e

end Cert.Proof.Carry

end
-- ==== Proof.Spec.lean ====
/-
  What the four results are, as functions of the arguments over the extended reals and free of any program: the
  modulated rows, their codes, their magnitudes, the velocities as an image, and the new latent.
-/
module

public import proofs.«01_k».proof.Proof.Block

@[expose] public section

noncomputable section

namespace Cert.Proof.Spec

open Idealize.ShloMosaic
open Cert.Proof.RowMath Cert.Proof.Block

/-- The arguments, each as a function of its indices. Sequence `n` of the sixteen is batch entry `n` conditioned for
    `n < 8` and batch entry `n - 8` unconditioned otherwise. -/
structure Args where
  /-- The rows of activations. -/
  X : Fin 16 → Fin 6144 → Fin 3072 → EReal
  /-- The shifts. -/
  Sh : Fin 16 → Fin 3072 → EReal
  /-- The scales. -/
  Sc : Fin 16 → Fin 3072 → EReal
  /-- The weights' codes. -/
  W : Fin 3072 → Fin 64 → EReal
  /-- The weights' scales. -/
  Ws : Fin 64 → EReal
  /-- The bias. -/
  Bi : Fin 64 → EReal
  /-- The guidance. -/
  G : Fin 8 → EReal
  /-- The time. -/
  T : Fin 8 → EReal
  /-- The next time. -/
  Tn : Fin 8 → EReal
  /-- The latent. -/
  Lat : Fin 8 → Fin 16 → Fin 192 → Fin 128 → EReal
  /-- The static scales of the activations. -/
  Xs : Fin 16 → EReal

variable (A : Args)

/-- The normalized and modulated activations. -/
def h (n : Fin 16) (s : Fin 6144) (d : Fin 3072) : EReal := modul (A.X n s) eps (A.Sc n d) (A.Sh n d) d

/-- The codes: the modulated activations over the static scale, clipped. -/
def code (n : Fin 16) (s : Fin 6144) (d : Fin 3072) : EReal := clip (h A n s d * Ideal.div 1 (A.Xs n))

/-- A row's greatest magnitude. -/
def amax (n : Fin 16) (s : Fin 6144) : EReal := (Finset.univ : Finset (Fin 3072)).fold max ⊥ fun d => mag (h A n s d)

/-- A row's projected features, from its codes. -/
def proj (n : Fin 16) (s : Fin 6144) (p : Fin 64) : EReal := (∑ d, code A n s d * A.W d p) * A.Xs n * A.Ws p + A.Bi p

/-- The guided velocity: the unconditioned features moved by the guidance towards the conditioned ones. -/
def vel (b : Fin 8) (s : Fin 6144) (p : Fin 64) : EReal :=
  proj A ⟨8 + b.val, by omega⟩ s p + A.G b * (proj A ⟨b.val, by omega⟩ s p - proj A ⟨8 + b.val, by omega⟩ s p)

/-- The velocities laid out as an image of 192 × 128 points in 16 channels, a row of features being a patch of 2 × 2. -/
def img (b : Fin 8) (ch : Fin 16) (y : Fin 192) (l : Fin 128) : EReal :=
  vel A b ⟨64 * (y.val / 2) + l.val / 2, by omega⟩ ⟨32 * (y.val % 2) + 16 * (l.val % 2) + ch.val, by omega⟩

/-- The new latent: one step along the velocities. -/
def lat (b : Fin 8) (ch : Fin 16) (y : Fin 192) (l : Fin 128) : EReal := A.Lat b ch y l + (A.Tn b - A.T b) * img A b ch y l

end Cert.Proof.Spec

end
-- ==== Proof.KerRead.lean ====
/-
  What the kernel leaves in its four result arrays, read at an index: each is its function of the arguments (Spec.lean),
  where every activation is a real number and every static scale a positive one.
-/
module

public import proofs.«01_k».proof.Proof.Carry
public import proofs.«01_k».proof.Proof.Spec
public import proofs.«01_k».proof.Proof.Gen.KernelIdeal.Value

@[expose] public section

set_option maxRecDepth 16384
set_option maxHeartbeats 400000

noncomputable section

namespace Cert.Proof.KerRead

open Cert.KernelIdeal Cert.KernelIdeal.Gen Idealize.ShloMosaic Idealize.ShloMosaic.TcCoe
open Cert.Proof.RowMath Cert.Proof.Block Cert.Proof.Coef Cert.Proof.Point Cert.Proof.Sweep Cert.Proof.Carry

variable (m : (ℓ : Loc nD τ sig) → Buf (Elt Ideal) ℓ) (c : Dev nD)

/-- The arguments as functions of their indices. -/
def args : Spec.Args where
  X n s d := aX m c (ix3 n s d)
  Sh n d := aShift m c (ix2 n d)
  Sc n d := aScale m c (ix2 n d)
  W d p := aW m c (ix2 d p)
  Ws p := aWs m c (ix1 p)
  Bi p := aBias m c (ix1 p)
  G b := aGuid m c (ix1 b)
  T b := aT m c (ix1 b)
  Tn b := aTn m c (ix1 b)
  Lat b ch y l := aLat m c (ix4 b ch y l)
  Xs n := aXs m c (ix1 n)

/-- Every activation is a real number, and every static scale a positive one. -/
structure Ordinary : Prop where
  /-- The activations are real. -/
  x_real : ∀ n s d, ∃ r : ℝ, aX m c (ix3 n s d) = (r : EReal)
  /-- The static scales are real and positive. -/
  xs_pos : ∀ n, ∃ r : ℝ, 0 < r ∧ aXs m c (ix1 n) = (r : EReal)

variable {m c}

/-! ## A point's blocks -/

/-- One over a positive real, as the kernel divides. -/
theorem div_one (r : ℝ) (hr : 0 < r) : Ideal.div 1 (r : EReal) = ((1 / r : ℝ) : EReal) := by
  rw [Ideal.div_coe hr.ne', one_mul]

/-- A point's row of activations. -/
theorem xRow_eq (t : Fin cfg0.N) (h : Fin 2) (r : Fin 512) : xRow (iblk m c 4 t) h r = (args m c).X (at16 h (bOf t)) (rowT t r) :=
  funext fun d => iblk4_apply m c t h 0 r d

/-- The scaled rows are the modulated rows over the static scale. -/
theorem q_eq (H : Ordinary m c) (t : Fin cfg0.N) (h : Fin 2) (r : Fin 512) (d : Fin 3072) :
    qBlk (iblk m c 4 t) (gainA m c (bOf t)) (offsetA m c (bOf t)) h r d
      = Spec.h (args m c) (at16 h (bOf t)) (rowT t r) d * Ideal.div 1 ((args m c).Xs (at16 h (bOf t))) := by
  obtain ⟨s, hs, e⟩ := H.xs_pos (at16 h (bOf t))
  have e' : (args m c).Xs (at16 h (bOf t)) = (s : EReal) := e
  unfold qBlk Spec.h
  rw [xRow_eq, e', div_one s hs]
  refine Eq.trans ?_ (modulK_eq ((args m c).X (at16 h (bOf t)) (rowT t r)) (fun d => H.x_real (at16 h (bOf t)) (rowT t r) d) _ _ _ _ (by positivity) d)
  rw [← div_one s hs, ← e]
  rfl

/-- A point's codes. -/
theorem codesT_apply (H : Ordinary m c) (t : Fin cfg0.N) (h : Fin 2) (u : Fin 1) (r : Fin 512) (d : Fin 3072) :
    codesT m c t (ix4 h u r d) = Spec.code (args m c) (at16 h (bOf t)) (rowT t r) d :=
  congrArg clip (q_eq H t h r d)

/-- A point's row magnitudes. -/
theorem amaxT_apply (H : Ordinary m c) (t : Fin cfg0.N) (h : Fin 2) (r : Fin 512) :
    amaxAt (rowsT m c t) (fun h => aXs m c (ix1 (at16 h (bOf t)))) h r = Spec.amax (args m c) (at16 h (bOf t)) (rowT t r) := by
  obtain ⟨s, hs, e⟩ := H.xs_pos (at16 h (bOf t))
  have e' : (args m c).Xs (at16 h (bOf t)) = (s : EReal) := e
  unfold amaxAt Spec.amax
  rw [← max_tiles (fun d => Spec.h (args m c) (at16 h (bOf t)) (rowT t r) d) s hs]
  beta_reduce
  rw [e]
  refine congrArg (fun f => (Finset.univ : Finset (Fin 128)).fold max ⊥ f * (s : EReal)) (funext fun l => ?_)
  refine congrArg (fun f => (Finset.univ : Finset (Fin 24)).fold max 0 f) (funext fun k => ?_)
  refine congrArg mag ((q_eq H t h r (col k l)).trans ?_)
  rw [e', div_one s hs]

/-- A point's projected features. -/
theorem projT_apply (H : Ordinary m c) (t : Fin cfg0.N) (h : Fin 2) (r : Fin 512) (p : Fin 64) :
    projAt (codesT m c t) (V m c main_v3) (V m c main_v4) (V m c main_v5) (aXs m c (ix1 (at16 h (bOf t)))) h p r
      = Spec.proj (args m c) (at16 h (bOf t)) (rowT t r) p := by
  unfold projAt Spec.proj
  rw [v4_apply, v5_apply]
  refine congrArg (fun z => z * aXs m c (ix1 (at16 h (bOf t))) * aWs m c (ix1 p) + aBias m c (ix1 p)) ?_
  refine Finset.sum_congr rfl fun d _ => ?_
  rw [v3_apply, codesT_apply H, mul_comm]
  rfl

/-- A point's rows of the image: sixteen of the 192. -/
abbrev yT (t : Fin cfg0.N) (y : Fin 16) : Fin 192 := ⟨16 * (t.val % 12) + y.val, by omega⟩

/-- A point's velocities. -/
theorem imgT_apply (H : Ordinary m c) (t : Fin cfg0.N) (ch y : Fin 16) (l : Fin 128) :
    velImg (codesT m c t) (V m c main_v3) (V m c main_v4) (V m c main_v5) (fun h => aXs m c (ix1 (at16 h (bOf t)))) (aGuid m c (ix1 (bOf t))) ch y l
      = Spec.img (args m c) (bOf t) ch (yT t y) l := by
  have hr : rowT t ⟨64 * (y.val / 2) + l.val / 2, by omega⟩ = (⟨64 * ((yT t y).val / 2) + l.val / 2, by omega⟩ : Fin 6144) := by
    apply Fin.ext
    show 512 * (t.val % 12) + (64 * (y.val / 2) + l.val / 2) = 64 * ((16 * (t.val % 12) + y.val) / 2) + l.val / 2
    omega
  have hp : (⟨32 * (y.val % 2) + 16 * (l.val % 2) + ch.val, by omega⟩ : Fin 64) = ⟨32 * ((yT t y).val % 2) + 16 * (l.val % 2) + ch.val, by omega⟩ := by
    apply Fin.ext
    show 32 * (y.val % 2) + 16 * (l.val % 2) + ch.val = 32 * ((16 * (t.val % 12) + y.val) % 2) + 16 * (l.val % 2) + ch.val
    omega
  have h0 : at16 0 (bOf t) = (⟨(bOf t).val, by omega⟩ : Fin 16) := Fin.ext (by show 8 * 0 + (bOf t).val = (bOf t).val; omega)
  have h1 : at16 1 (bOf t) = (⟨8 + (bOf t).val, by omega⟩ : Fin 16) := Fin.ext (by show 8 * 1 + (bOf t).val = 8 + (bOf t).val; omega)
  unfold velImg velAt
  rw [projT_apply H, projT_apply H, hr, hp, h0, h1]
  rfl

/-! ## The arrays -/

/-- The point that writes row `s` of batch entry `b`. -/
abbrev ptRow (b : Fin 8) (s : Fin 6144) : Fin cfg0.N := ⟨12 * b.val + s.val / 512, by have e : cfg0.N = 96 := N_0; omega⟩

/-- The point that writes image row `y` of batch entry `b`. -/
abbrev ptImg (b : Fin 8) (y : Fin 192) : Fin cfg0.N := ⟨12 * b.val + y.val / 16, by have e : cfg0.N = 96 := N_0; omega⟩

/-- That point's batch entry and rows. -/
theorem bOf_ptRow (b : Fin 8) (s : Fin 6144) : bOf (ptRow b s) = b := Fin.ext (by show (12 * b.val + s.val / 512) / 12 = b.val; omega)

/-- A row is one of its point's. -/
theorem rowT_ptRow (b : Fin 8) (s : Fin 6144) : rowT (ptRow b s) ⟨s.val % 512, by omega⟩ = s :=
  Fin.ext (by show 512 * ((12 * b.val + s.val / 512) % 12) + s.val % 512 = s.val; omega)

/-- An image row's point is its batch entry's. -/
theorem bOf_ptImg (b : Fin 8) (y : Fin 192) : bOf (ptImg b y) = b := Fin.ext (by show (12 * b.val + y.val / 16) / 12 = b.val; omega)

/-- An image row is one of its point's. -/
theorem yT_ptImg (b : Fin 8) (y : Fin 192) : yT (ptImg b y) ⟨y.val % 16, by omega⟩ = y :=
  Fin.ext (by show 16 * ((12 * b.val + y.val / 16) % 12) + y.val % 16 = y.val; omega)

/-- The carried state after a point, read off the sweep at any spelling of the point's number. -/
theorem sweep_at (n : ℕ) (t : Fin cfg0.N) (e : n = t.val) (h : n < cfg0.N) :
    Pipeline.accAt (fun n h => Value.stAt0 m c n h Value.junk0) (Value.stAt0 m c) 0 n (by omega) = outsAt0 m c t.val t.isLt := by
  subst e
  exact (Value.outsAt0_sweep m c t.val t.isLt).symm

/-- The third result: the codes. -/
theorem codes_apply (H : Ordinary m c) (h : Fin 2) (b : Fin 8) (s : Fin 6144) (d : Fin 3072) :
    (Value.G13 m c : Vec Ideal S2x8x6144x3072 .fp8e4m3) (ix4 h b s d) = Spec.code (args m c) (at16 h b) s d := by
  have e : Value.pt13Of (ix4 h b s d) = (ptRow b s).val := by
    show 96 * (h.val / 2 - 0) + 12 * (b.val / 1 - 0) + 1 * (s.val / 512 - 0) + 1 * (d.val / 3072 - 0) = 12 * b.val + s.val / 512
    omega
  have el : Value.loc13Of (ix4 h b s d) = ix4 h 0 ⟨s.val % 512, by omega⟩ d := by
    funext a; apply Fin.ext
    match a with
    | ⟨0, _⟩ => show h.val % 2 = h.val; omega
    | ⟨1, _⟩ => show b.val % 1 = 0; omega
    | ⟨2, _⟩ => rfl
    | ⟨3, _⟩ => show d.val % 3072 = d.val; omega
  unfold Value.G13
  rw [dif_pos (by rw [e]; exact (ptRow b s).isLt), el, sweep_at _ (ptRow b s) e (by rw [e]; exact (ptRow b s).isLt), after13, codesT_apply H, bOf_ptRow, rowT_ptRow]

/-- The fourth result: the magnitudes. -/
theorem amax_apply (H : Ordinary m c) (h : Fin 2) (b : Fin 8) (u : Fin 1) (s : Fin 6144) :
    (Value.G14 m c : Vec Ideal S2x8x1x6144 .f32) (ix4 h b u s) = Spec.amax (args m c) (at16 h b) s := by
  have e : Value.pt14Of (ix4 h b u s) = (ptRow b s).val := by
    show 96 * (h.val / 2 - 0) + 12 * (b.val / 1 - 0) + 12 * (u.val / 1 - 0) + 1 * (s.val / 512 - 0) = 12 * b.val + s.val / 512
    omega
  have el : Value.loc14Of (ix4 h b u s) = ix4 h 0 0 ⟨s.val % 512, by omega⟩ := by
    funext a; apply Fin.ext
    match a with
    | ⟨0, _⟩ => show h.val % 2 = h.val; omega
    | ⟨1, _⟩ => show b.val % 1 = 0; omega
    | ⟨2, _⟩ => show u.val % 1 = 0; omega
    | ⟨3, _⟩ => rfl
  unfold Value.G14
  rw [dif_pos (by rw [e]; exact (ptRow b s).isLt), el, sweep_at _ (ptRow b s) e (by rw [e]; exact (ptRow b s).isLt), after14, iblk0_eq]
  refine (amaxT_apply H (ptRow b s) h ⟨s.val % 512, by omega⟩).trans ?_
  rw [bOf_ptRow, rowT_ptRow]

/-- The second result: the velocities as an image. -/
theorem v_apply (H : Ordinary m c) (b : Fin 8) (ch : Fin 16) (y : Fin 192) (l : Fin 128) :
    (Value.G12 m c : Vec Ideal S8x16x192x128 .bf16) (ix4 b ch y l) = Spec.img (args m c) b ch y l := by
  have e : Value.pt12Of (ix4 b ch y l) = (ptImg b y).val := by
    show 12 * (b.val / 1 - 0) + 12 * (ch.val / 16 - 0) + 1 * (y.val / 16 - 0) + 1 * (l.val / 128 - 0) = 12 * b.val + y.val / 16
    omega
  have el : Value.loc12Of (ix4 b ch y l) = ix4 0 ch ⟨y.val % 16, by omega⟩ l := by
    funext a; apply Fin.ext
    match a with
    | ⟨0, _⟩ => show b.val % 1 = 0; omega
    | ⟨1, _⟩ => show ch.val % 16 = ch.val; omega
    | ⟨2, _⟩ => rfl
    | ⟨3, _⟩ => show l.val % 128 = l.val; omega
  unfold Value.G12
  rw [dif_pos (by rw [e]; exact (ptImg b y).isLt), el, sweep_at _ (ptImg b y) e (by rw [e]; exact (ptImg b y).isLt), after12, iblk0_eq, iblk1_eq,
    iblk7_eq, iblk8_eq, iblk9_eq]
  refine (imgT_apply H (ptImg b y) ch ⟨y.val % 16, by omega⟩ l).trans ?_
  rw [bOf_ptImg, yT_ptImg]

/-- The first result: the new latent. -/
theorem lat_apply (H : Ordinary m c) (b : Fin 8) (ch : Fin 16) (y : Fin 192) (l : Fin 128) :
    (Value.G11 m c : Vec Ideal S8x16x192x128 .f32) (ix4 b ch y l) = Spec.lat (args m c) b ch y l := by
  have e : Value.pt11Of (ix4 b ch y l) = (ptImg b y).val := by
    show 12 * (b.val / 1 - 0) + 12 * (ch.val / 16 - 0) + 1 * (y.val / 16 - 0) + 1 * (l.val / 128 - 0) = 12 * b.val + y.val / 16
    omega
  have el : Value.loc11Of (ix4 b ch y l) = ix4 0 ch ⟨y.val % 16, by omega⟩ l := by
    funext a; apply Fin.ext
    match a with
    | ⟨0, _⟩ => show b.val % 1 = 0; omega
    | ⟨1, _⟩ => show ch.val % 16 = ch.val; omega
    | ⟨2, _⟩ => rfl
    | ⟨3, _⟩ => show l.val % 128 = l.val; omega
  unfold Value.G11
  rw [dif_pos (by rw [e]; exact (ptImg b y).isLt), el, sweep_at _ (ptImg b y) e (by rw [e]; exact (ptImg b y).isLt), after11, iblk0_eq, iblk1_eq,
    iblk2_eq, iblk3_eq, iblk7_eq, iblk8_eq, iblk9_eq]
  refine (congrArg₂ (fun x z => x + (aTn m c (ix1 (bOf (ptImg b y))) - aT m c (ix1 (bOf (ptImg b y)))) * z)
    (iblk10_apply m c (ptImg b y) 0 ch ⟨y.val % 16, by omega⟩ l) (imgT_apply H (ptImg b y) ch ⟨y.val % 16, by omega⟩ l)).trans ?_
  show aLat m c (ix4 _ ch (yT (ptImg b y) ⟨y.val % 16, by omega⟩) l) + _ = _
  rw [bOf_ptImg, yT_ptImg]
  rfl

end Cert.Proof.KerRead

end
-- ==== Proof.RefValue.lean ====
/- What the reference leaves in each result array, as ONE function of the eleven argument arrays. The reference is a
   single call on whole arrays: every block is its array, and each result is stored once, whole. -/
module

public import proofs.«01_k».proof.Proof.Gen.ReferenceIdeal.Frame
public import Idealize.ShloMosaic.Lib.Pipeline.Value

@[expose] public section

noncomputable section

namespace Cert.Proof.RefValue

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_0) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_1) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_2) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v0_3) = (dats m 0 c).arrAt 14 cfg0.N :=
  (h c).1 14

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-- After the frame run, argument `main_arg10` is as launched: input window 10 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))

/-! ## Closed form at one grid point: every window's block is its array -/

/-- The offsets of a whole array of rank three are zero. -/
theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S16x6144x3072.Idx) : ((cfg0.win 0).blk t).view.emb j = j := by
  obtain ⟨e0, e1, e2⟩ := idx_zero0 t
  funext a; apply Fin.ext
  match a with
  | ⟨0, _⟩ => show win0_0.index t (0 : Fin 3) * 16 + 1 * (j 0).val = (j 0).val; omega
  | ⟨1, _⟩ => show win0_0.index t (1 : Fin 3) * 6144 + 1 * (j 1).val = (j 1).val; omega
  | ⟨2, _⟩ => show win0_0.index t (2 : Fin 3) * 3072 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

/-- The offsets of a whole array of rank two are zero. -/
theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S16x3072.Idx) : ((cfg0.win 1).blk t).view.emb j = j := by
  obtain ⟨e0, e1⟩ := idx_zero1 t
  funext a; apply Fin.ext
  match a with
  | ⟨0, _⟩ => show win0_1.index t (0 : Fin 2) * 16 + 1 * (j 0).val = (j 0).val; omega
  | ⟨1, _⟩ => show win0_1.index t (1 : Fin 2) * 3072 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S16x3072.Idx) : ((cfg0.win 2).blk t).view.emb j = j := by
  obtain ⟨e0, e1⟩ := idx_zero2 t
  funext a; apply Fin.ext
  match a with
  | ⟨0, _⟩ => show win0_2.index t (0 : Fin 2) * 16 + 1 * (j 0).val = (j 0).val; omega
  | ⟨1, _⟩ => show win0_2.index t (1 : Fin 2) * 3072 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S3072x64.Idx) : ((cfg0.win 3).blk t).view.emb j = j := by
  obtain ⟨e0, e1⟩ := idx_zero3 t
  funext a; apply Fin.ext
  match a with
  | ⟨0, _⟩ => show win0_3.index t (0 : Fin 2) * 3072 + 1 * (j 0).val = (j 0).val; omega
  | ⟨1, _⟩ => show win0_3.index t (1 : Fin 2) * 64 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

/-- The offset of a whole array of rank one is zero. -/
theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S64.Idx) : ((cfg0.win 4).blk t).view.emb j = j := by
  have e0 := idx_zero4 t
  funext a; apply Fin.ext
  match a with
  | ⟨0, _⟩ => show win0_4.index t (0 : Fin 1) * 64 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S64.Idx) : ((cfg0.win 5).blk t).view.emb j = j := by
  have e0 := idx_zero5 t
  funext a; apply Fin.ext
  match a with
  | ⟨0, _⟩ => show win0_5.index t (0 : Fin 1) * 64 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S8.Idx) : ((cfg0.win 6).blk t).view.emb j = j := by
  have e0 := idx_zero6 t
  funext a; apply Fin.ext
  match a with
  | ⟨0, _⟩ => show win0_6.index t (0 : Fin 1) * 8 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S8.Idx) : ((cfg0.win 7).blk t).view.emb j = j := by
  have e0 := idx_zero7 t
  funext a; apply Fin.ext
  match a with
  | ⟨0, _⟩ => show win0_7.index t (0 : Fin 1) * 8 + 1 * (j 0).val = (j 0).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S8.Idx) : ((cfg0.win 8).blk t).view.emb j = j := by
  have e0 := idx_zero8 t
  funext a; apply Fin.ext
  match a with
  | ⟨0, _⟩ => show win0_8.index t (0 : Fin 1) * 8 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

/-- The offsets of a whole array of rank four are zero. -/
theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S8x16x192x128.Idx) : ((cfg0.win 9).blk t).view.emb j = j := by
  obtain ⟨e0, e1, e2, e3⟩ := idx_zero9 t
  funext a; apply Fin.ext
  match a with
  | ⟨0, _⟩ => show win0_9.index t (0 : Fin 4) * 8 + 1 * (j 0).val = (j 0).val; omega
  | ⟨1, _⟩ => show win0_9.index t (1 : Fin 4) * 16 + 1 * (j 1).val = (j 1).val; omega
  | ⟨2, _⟩ => show win0_9.index t (2 : Fin 4) * 192 + 1 * (j 2).val = (j 2).val; omega
  | ⟨3, _⟩ => show win0_9.index t (3 : Fin 4) * 128 + 1 * (j 3).val = (j 3).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

/-- Window 10's block index at the one point is zero on every axis. -/
theorem idx_zero10 : ∀ t : Fin cfg0.N, win0_10.index t (0 : Fin 1) = 0 :=
  (by decide +kernel : ∀ t : Fin grid0.N, _)

/-- An index of window 10's block is the same index of its array. -/
theorem emb10 (t : Fin cfg0.N) (j : S16.Idx) : ((cfg0.win 10).blk t).view.emb j = j := by
  have e0 := idx_zero10 t
  funext a; apply Fin.ext
  match a with
  | ⟨0, _⟩ => show win0_10.index t (0 : Fin 1) * 16 + 1 * (j 0).val = (j 0).val; omega

/-- Input window 10's block at the point is its array as the region finds it. -/
theorem iblk10_eq (c : Dev nD) (t : Fin cfg0.N) : iblk m c 10 t = V m c main_arg10 := by
  funext j; show V m c main_arg10 (((cfg0.win 10).blk t).view.emb j) = V m c main_arg10 j; rw [emb10]

/-- Window 11's block index at the one point is zero on every axis. -/
theorem idx_zero11 : ∀ t : Fin cfg0.N, win0_11.index t (0 : Fin 4) = 0 ∧ win0_11.index t (1 : Fin 4) = 0 ∧ win0_11.index t (2 : Fin 4) = 0 ∧ win0_11.index t (3 : Fin 4) = 0 :=
  (by decide +kernel : ∀ t : Fin grid0.N, _)

/-- An index of window 11's block is the same index of its array. -/
theorem emb11 (t : Fin cfg0.N) (j : S8x16x192x128.Idx) : ((cfg0.win 11).blk t).view.emb j = j := by
  obtain ⟨e0, e1, e2, e3⟩ := idx_zero11 t
  funext a; apply Fin.ext
  match a with
  | ⟨0, _⟩ => show win0_11.index t (0 : Fin 4) * 8 + 1 * (j 0).val = (j 0).val; omega
  | ⟨1, _⟩ => show win0_11.index t (1 : Fin 4) * 16 + 1 * (j 1).val = (j 1).val; omega
  | ⟨2, _⟩ => show win0_11.index t (2 : Fin 4) * 192 + 1 * (j 2).val = (j 2).val; omega
  | ⟨3, _⟩ => show win0_11.index t (3 : Fin 4) * 128 + 1 * (j 3).val = (j 3).val; omega

/-- Window 12's block index at the one point is zero on every axis. -/
theorem idx_zero12 : ∀ t : Fin cfg0.N, win0_12.index t (0 : Fin 4) = 0 ∧ win0_12.index t (1 : Fin 4) = 0 ∧ win0_12.index t (2 : Fin 4) = 0 ∧ win0_12.index t (3 : Fin 4) = 0 :=
  (by decide +kernel : ∀ t : Fin grid0.N, _)

/-- An index of window 12's block is the same index of its array. -/
theorem emb12 (t : Fin cfg0.N) (j : S8x16x192x128.Idx) : ((cfg0.win 12).blk t).view.emb j = j := by
  obtain ⟨e0, e1, e2, e3⟩ := idx_zero12 t
  funext a; apply Fin.ext
  match a with
  | ⟨0, _⟩ => show win0_12.index t (0 : Fin 4) * 8 + 1 * (j 0).val = (j 0).val; omega
  | ⟨1, _⟩ => show win0_12.index t (1 : Fin 4) * 16 + 1 * (j 1).val = (j 1).val; omega
  | ⟨2, _⟩ => show win0_12.index t (2 : Fin 4) * 192 + 1 * (j 2).val = (j 2).val; omega
  | ⟨3, _⟩ => show win0_12.index t (3 : Fin 4) * 128 + 1 * (j 3).val = (j 3).val; omega

/-- Window 13's block index at the one point is zero on every axis. -/
theorem idx_zero13 : ∀ t : Fin cfg0.N, win0_13.index t (0 : Fin 4) = 0 ∧ win0_13.index t (1 : Fin 4) = 0 ∧ win0_13.index t (2 : Fin 4) = 0 ∧ win0_13.index t (3 : Fin 4) = 0 :=
  (by decide +kernel : ∀ t : Fin grid0.N, _)

/-- An index of window 13's block is the same index of its array. -/
theorem emb13 (t : Fin cfg0.N) (j : S2x8x6144x3072.Idx) : ((cfg0.win 13).blk t).view.emb j = j := by
  obtain ⟨e0, e1, e2, e3⟩ := idx_zero13 t
  funext a; apply Fin.ext
  match a with
  | ⟨0, _⟩ => show win0_13.index t (0 : Fin 4) * 2 + 1 * (j 0).val = (j 0).val; omega
  | ⟨1, _⟩ => show win0_13.index t (1 : Fin 4) * 8 + 1 * (j 1).val = (j 1).val; omega
  | ⟨2, _⟩ => show win0_13.index t (2 : Fin 4) * 6144 + 1 * (j 2).val = (j 2).val; omega
  | ⟨3, _⟩ => show win0_13.index t (3 : Fin 4) * 3072 + 1 * (j 3).val = (j 3).val; omega

/-- Window 14's block index at the one point is zero on every axis. -/
theorem idx_zero14 : ∀ t : Fin cfg0.N, win0_14.index t (0 : Fin 4) = 0 ∧ win0_14.index t (1 : Fin 4) = 0 ∧ win0_14.index t (2 : Fin 4) = 0 ∧ win0_14.index t (3 : Fin 4) = 0 :=
  (by decide +kernel : ∀ t : Fin grid0.N, _)

/-- An index of window 14's block is the same index of its array. -/
theorem emb14 (t : Fin cfg0.N) (j : S2x8x1x6144.Idx) : ((cfg0.win 14).blk t).view.emb j = j := by
  obtain ⟨e0, e1, e2, e3⟩ := idx_zero14 t
  funext a; apply Fin.ext
  match a with
  | ⟨0, _⟩ => show win0_14.index t (0 : Fin 4) * 2 + 1 * (j 0).val = (j 0).val; omega
  | ⟨1, _⟩ => show win0_14.index t (1 : Fin 4) * 8 + 1 * (j 1).val = (j 1).val; omega
  | ⟨2, _⟩ => show win0_14.index t (2 : Fin 4) * 1 + 1 * (j 2).val = (j 2).val; omega
  | ⟨3, _⟩ => show win0_14.index t (3 : Fin 4) * 6144 + 1 * (j 3).val = (j 3).val; omega

/-! ### Output window 11: the array after the run -/

/-- What the window's array ends holding: `out0_11` applied to the argument arrays in place of the input blocks (a value that the
    frame states apart, `kK_payN a…`, keeps its loads inside its own definition). -/
abbrev G11 (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : Vec F S8x16x192x128 .f32 :=
  k0_pay7 a10 (k0_pay8 a0 a1 a2 a3 a4 a5 a6 a7 a8 a9 a10) a3 a4 a5 a6 a9 a8 a7

/-- A load of the whole of a block reads the block, and the one store through the whole rectangle leaves its payload. -/
theorem out11_eq (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : out0_11 (F := F) a0 a1 a2 a3 a4 a5 a6 a7 a8 a9 a10 = G11 a0 a1 a2 a3 a4 a5 a6 a7 a8 a9 a10 := by
  unfold out0_11
  rw [View.canon_unit_zero hz9, View.ld_unit_zero (S := S16) hz4 _ a10, View.ld_unit_zero (S := S3072x64) hz1 _ a3, View.ld_unit_zero (S := S64) hz4 _ a4, View.ld_unit_zero (S := S64) hz4 _ a5, View.ld_unit_zero (S := S8) hz4 _ a6, View.ld_unit_zero (S := S8x16x192x128) hz9 _ a9, View.ld_unit_zero (S := S8) hz4 _ a8, View.ld_unit_zero (S := S8) hz4 _ a7]

/-- Cutting the point's block out of `X` and reading `X` through the block's view give the same. -/
theorem cut11_eq (t : Fin cfg0.N) (X : Vec F S8x16x192x128 .f32) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8) (V m c main_arg9) (V m c main_arg10)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq, iblk9_eq, iblk10_eq]
  exact cut11_eq t _

/-- Every index of the array is in the point's block. -/
theorem covered11 (i : S8x16x192x128.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((dats m 0 c).arrAt_eq_of_cover 11 (G11 (V m c main_arg0) (V m c main_arg1) (V m c main_arg2) (V m c main_arg3) (V m c main_arg4) (V m c main_arg5) (V m c main_arg6) (V m c main_arg7) (V m c main_arg8) (V m c main_arg9) (V m c main_arg10)) (fun t _ => flushed11_eq m c t) covered11).trans (by rw [V_main_arg0, V_main_arg1, V_main_arg2, V_main_arg3, V_main_arg4, V_main_arg5, V_main_arg6, V_main_arg7, V_main_arg8, V_main_arg9, V_main_arg10])

/-! ### Output window 12: the array after the run -/

/-- What the window's array ends holding: `out0_12` applied to the argument arrays in place of the input blocks (a value that the
    frame states apart, `kK_payN a…`, keeps its loads inside its own definition). -/
abbrev G12 (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : Vec F S8x16x192x128 .bf16 :=
  k0_pay1 (k0_pay6 a10 (k0_pay8 a0 a1 a2 a3 a4 a5 a6 a7 a8 a9 a10) a3 a4 a5 a6)

/-- A load of the whole of a block reads the block, and the one store through the whole rectangle leaves its payload. -/
theorem out12_eq (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : out0_12 (F := F) a0 a1 a2 a3 a4 a5 a6 a7 a8 a9 a10 = G12 a0 a1 a2 a3 a4 a5 a6 a7 a8 a9 a10 := by
  unfold out0_12
  rw [View.canon_unit_zero hz9, View.ld_unit_zero (S := S16) hz4 _ a10, View.ld_unit_zero (S := S3072x64) hz1 _ a3, View.ld_unit_zero (S := S64) hz4 _ a4, View.ld_unit_zero (S := S64) hz4 _ a5, View.ld_unit_zero (S := S8) hz4 _ a6]

/-- Cutting the point's block out of `X` and reading `X` through the block's view give the same. -/
theorem cut12_eq (t : Fin cfg0.N) (X : Vec F S8x16x192x128 .bf16) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8) (V m c main_arg9) (V m c main_arg10)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq, iblk9_eq, iblk10_eq]
  exact cut12_eq t _

/-- Every index of the array is in the point's block. -/
theorem covered12 (i : S8x16x192x128.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((dats m 0 c).arrAt_eq_of_cover 12 (G12 (V m c main_arg0) (V m c main_arg1) (V m c main_arg2) (V m c main_arg3) (V m c main_arg4) (V m c main_arg5) (V m c main_arg6) (V m c main_arg7) (V m c main_arg8) (V m c main_arg9) (V m c main_arg10)) (fun t _ => flushed12_eq m c t) covered12).trans (by rw [V_main_arg0, V_main_arg1, V_main_arg2, V_main_arg3, V_main_arg4, V_main_arg5, V_main_arg6, V_main_arg7, V_main_arg8, V_main_arg9, V_main_arg10])

/-! ### Output window 13: the array after the run -/

/-- What the window's array ends holding: `out0_13` applied to the argument arrays in place of the input blocks (a value that the
    frame states apart, `kK_payN a…`, keeps its loads inside its own definition). -/
abbrev G13 (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : Vec F S2x8x6144x3072 .fp8e4m3 :=
  k0_pay4 a0 a1 a2 a10

/-- A load of the whole of a block reads the block, and the one store through the whole rectangle leaves its payload. -/
theorem out13_eq (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : out0_13 (F := F) a0 a1 a2 a3 a4 a5 a6 a7 a8 a9 a10 = G13 a0 a1 a2 a3 a4 a5 a6 a7 a8 a9 a10 := by
  unfold out0_13
  rw [View.canon_unit_zero hz9, View.ld_unit_zero (S := S16x6144x3072) hz0 _ a0, View.ld_unit_zero (S := S16x3072) hz1 _ a1, View.ld_unit_zero (S := S16x3072) hz1 _ a2, View.ld_unit_zero (S := S16) hz4 _ a10]

/-- Cutting the point's block out of `X` and reading `X` through the block's view give the same. -/
theorem cut13_eq (t : Fin cfg0.N) (X : Vec F S2x8x6144x3072 .fp8e4m3) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8) (V m c main_arg9) (V m c main_arg10)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq, iblk9_eq, iblk10_eq]
  exact cut13_eq t _

/-- Every index of the array is in the point's block. -/
theorem covered13 (i : S2x8x6144x3072.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((dats m 0 c).arrAt_eq_of_cover 13 (G13 (V m c main_arg0) (V m c main_arg1) (V m c main_arg2) (V m c main_arg3) (V m c main_arg4) (V m c main_arg5) (V m c main_arg6) (V m c main_arg7) (V m c main_arg8) (V m c main_arg9) (V m c main_arg10)) (fun t _ => flushed13_eq m c t) covered13).trans (by rw [V_main_arg0, V_main_arg1, V_main_arg2, V_main_arg3, V_main_arg4, V_main_arg5, V_main_arg6, V_main_arg7, V_main_arg8, V_main_arg9, V_main_arg10])

/-! ### Output window 14: the array after the run -/

/-- What the window's array ends holding: `out0_14` applied to the argument arrays in place of the input blocks (a value that the
    frame states apart, `kK_payN a…`, keeps its loads inside its own definition). -/
abbrev G14 (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : Vec F S2x8x1x6144 .f32 :=
  k0_pay5 (k0_pay2 a0 a1 a2)

/-- A load of the whole of a block reads the block, and the one store through the whole rectangle leaves its payload. -/
theorem out14_eq (a0 : Vec F S16x6144x3072 .bf16) (a1 : Vec F S16x3072 .f32) (a2 : Vec F S16x3072 .f32) (a3 : Vec F S3072x64 .fp8e4m3) (a4 : Vec F S64 .f32) (a5 : Vec F S64 .f32) (a6 : Vec F S8 .f32) (a7 : Vec F S8 .f32) (a8 : Vec F S8 .f32) (a9 : Vec F S8x16x192x128 .f32) (a10 : Vec F S16 .f32) : out0_14 (F := F) a0 a1 a2 a3 a4 a5 a6 a7 a8 a9 a10 = G14 a0 a1 a2 a3 a4 a5 a6 a7 a8 a9 a10 := by
  unfold out0_14
  rw [View.canon_unit_zero hz9, View.ld_unit_zero (S := S16x6144x3072) hz0 _ a0, View.ld_unit_zero (S := S16x3072) hz1 _ a1, View.ld_unit_zero (S := S16x3072) hz1 _ a2]

/-- Cutting the point's block out of `X` and reading `X` through the block's view give the same. -/
theorem cut14_eq (t : Fin cfg0.N) (X : Vec F S2x8x1x6144 .f32) :
    (cfg0.win 14).cut (grid0.coords t) X = ((cfg0.win 14).blk t).view.read (Elt F) X := by
  funext j
  show X j = X (((cfg0.win 14).blk t).view.emb j)
  rw [emb14]

/-- WHAT THE POINT WRITES BACK is its block of `G14` of the argument arrays as the region finds them. -/
theorem flushed14_eq (c : Dev nD) (t : Fin cfg0.N) :
    (dats m 0 c).flushed 14 t = ((cfg0.win 14).blk t).view.read (Elt F) (G14 (V m c main_arg0) (V m c main_arg1) (V m c main_arg2) (V m c main_arg3) (V m c main_arg4) (V m c main_arg5) (V m c main_arg6) (V m c main_arg7) (V m c main_arg8) (V m c main_arg9) (V m c main_arg10)) := by
  show (cfg0.win 14).cut (grid0.coords t) ((dats m 0 c).after 14 t) = _
  rw [after0_14, out14_eq, iblk0_eq, iblk1_eq, iblk2_eq, iblk3_eq, iblk4_eq, iblk5_eq, iblk6_eq, iblk7_eq, iblk8_eq, iblk9_eq, iblk10_eq]
  exact cut14_eq t _

/-- Every index of the array is in the point's block. -/
theorem covered14 (i : S2x8x1x6144.Idx) :
    ∃ t : Fin cfg0.N, (cfg0.win 14).flush t = true ∧ i ∈ ((cfg0.win 14).blk t).view.set :=
  ⟨(⟨0, by decide⟩ : Fin cfg0.N), flush0_14 _, by have h := ((cfg0.win 14).blk (⟨0, by decide⟩ : Fin cfg0.N)).view.emb_mem_set i; rwa [emb14] at h⟩

/-- THE ARRAY after the run: `G14` of the argument arrays as launched. -/
theorem final14 (c : Dev nD) : (dats m 0 c).arrAt 14 cfg0.N = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((dats m 0 c).arrAt_eq_of_cover 14 (G14 (V m c main_arg0) (V m c main_arg1) (V m c main_arg2) (V m c main_arg3) (V m c main_arg4) (V m c main_arg5) (V m c main_arg6) (V m c main_arg7) (V m c main_arg8) (V m c main_arg9) (V m c main_arg10)) (fun t _ => flushed14_eq m c t) covered14).trans (by rw [V_main_arg0, V_main_arg1, V_main_arg2, V_main_arg3, V_main_arg4, V_main_arg5, V_main_arg6, V_main_arg7, V_main_arg8, V_main_arg9, V_main_arg10])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_1) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_2) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_v0_3) = G14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(post11 m r h c).trans (final11 m c),
      (post12 m r h c).trans (final12 m c),
      (post13 m r h c).trans (final13 m c),
      (post14 m r h c).trans (final14 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.Proof.RefValue

end
-- ==== Proof.RefRead.lean ====
/-
  The reference's four results, read at an index: each is its function of the arguments (Spec.lean).
-/
module

public import proofs.«01_k».proof.Proof.Spec
public import proofs.«01_k».proof.Proof.RefValue
public import Idealize.ShloMosaic.Lib.Pointwise
public import Idealize.ShloMosaic.Lib.ValueIdxRank6

@[expose] public section

set_option maxRecDepth 16384
set_option maxHeartbeats 400000

noncomputable section

namespace Cert.Proof.RefRead

open Cert.ReferenceIdeal Cert.ReferenceIdeal.Gen Idealize.ShloMosaic Idealize.ShloMosaic.TcCoe
open Cert.Proof.RowMath Cert.Proof.Block

variable (a0 : Vec Ideal S16x6144x3072 .bf16) (a1 a2 : Vec Ideal S16x3072 .f32) (a3 : Vec Ideal S3072x64 .fp8e4m3)
  (a4 a5 : Vec Ideal S64 .f32) (a6 a7 a8 : Vec Ideal S8 .f32) (a9 : Vec Ideal S8x16x192x128 .f32) (a10 : Vec Ideal S16 .f32)

/-- The arguments as functions of their indices. -/
def args : Spec.Args where
  X n s d := a0 (ix3 n s d)
  Sh n d := a1 (ix2 n d)
  Sc n d := a2 (ix2 n d)
  W d p := a3 (ix2 d p)
  Ws p := a4 (ix1 p)
  Bi p := a5 (ix1 p)
  G b := a6 (ix1 b)
  T b := a7 (ix1 b)
  Tn b := a8 (ix1 b)
  Lat b ch y l := a9 (ix4 b ch y l)
  Xs n := a10 (ix1 n)

/-- The word of the constant 3072 denotes it. -/
theorem ofBits_3072 : Ideal.ofBits .f32 0x45400000#32 = ((3072 : ℝ) : EReal) := by
  simp [Ideal.ofBits, Ideal.ieee, -EReal.coe_mul]; norm_num

/-! ## The modulated rows -/

/-- The means of the rows, kept as columns. -/
def rowMean (v : FVec Ideal S16x6144x3072 .f32) : FVec Ideal S16x6144x1 .f32 :=
  divf (shapeCast S16x6144x1 (multiReduction .add [2] S16x6144 v 0x00000000#32 reduces_S16x6144x3072_S16x6144 (.inl rfl) rfl)
    shapeCasts_S16x6144_S16x6144x1) (broadcast S16x6144x1 (Scalar.ofBits .f32 0x45400000#32))

/-- A row's mean is its sum times one 3072nd. -/
theorem rowMean_apply (v : FVec Ideal S16x6144x3072 .f32) (n : Fin 16) (s : Fin 6144) (u : Fin 1) :
    rowMean v (ix3 n s u) = (∑ d, v (ix3 n s d)) * c := by
  have e : shapeCast S16x6144x1 (multiReduction .add [2] S16x6144 v 0x00000000#32 reduces_S16x6144x3072_S16x6144 (.inl rfl) rfl)
      shapeCasts_S16x6144_S16x6144x1 (ix3 n s u) = ∑ d, v (ix3 n s d) := by
    refine (shapeCast_apply _ _ _ (ix2 n s) ?_).trans ?_
    · rw [Shape.rowMajor_val_two, Shape.rowMajor_val_three]; simp [ix2, ix3, S16x6144, S16x6144x1]
    · pointwise
  show Ideal.div _ (Ideal.ofBits .f32 0x45400000#32) = _
  rw [e, ofBits_3072, Ideal.div_coe (by norm_num)]

/-- The rows less their means. -/
def centred (v : FVec Ideal S16x6144x3072 .f32) : FVec Ideal S16x6144x3072 .f32 :=
  subf v (broadcastTo S16x6144x3072 (rowMean v) broadcasts_S16x6144x1_S16x6144x3072)

/-- A centred row at a column. -/
theorem centred_apply (v : FVec Ideal S16x6144x3072 .f32) (n : Fin 16) (s : Fin 6144) (d : Fin 3072) :
    centred v (ix3 n s d) = v (ix3 n s d) - mean fun d => v (ix3 n s d) := by
  unfold centred mean
  rw [← rowMean_apply v n s 0]
  pointwise

/-- The modulated rows as the reference spells them. -/
theorem pay2_eq : k0_pay2 a0 a1 a2 = addf (mulf (mulf (centred a0) (broadcastTo S16x6144x3072 (rsqrt (addf (rowMean (mulf (centred a0) (centred a0)))
      (broadcast S16x6144x1 (Scalar.ofBits .f32 0x358637BD#32)))) broadcasts_S16x6144x1_S16x6144x3072))
      (broadcastTo S16x6144x3072 (addf (broadcast S16x1x3072 (Scalar.ofBits .f32 0x3F800000#32)) (shapeCast S16x1x3072 a2 shapeCasts_S16x3072_S16x1x3072)) broadcasts_S16x1x3072_S16x6144x3072))
      (broadcastTo S16x6144x3072 (shapeCast S16x1x3072 a1 shapeCasts_S16x3072_S16x1x3072) broadcasts_S16x1x3072_S16x6144x3072) := rfl

/-- A vector per sequence, repeated over its rows. -/
theorem perSeq_apply (a : Vec Ideal S16x3072 .f32) (n : Fin 16) (u : Fin 1) (d : Fin 3072) :
    shapeCast S16x1x3072 a shapeCasts_S16x3072_S16x1x3072 (ix3 n u d) = a (ix2 n d) :=
  shapeCast_apply _ _ _ _ (by rw [Shape.rowMajor_val_two, Shape.rowMajor_val_three]; simp [ix2, ix3, S16x3072, S16x1x3072])

/-- The modulated rows at an index. -/
theorem h_apply (n : Fin 16) (s : Fin 6144) (d : Fin 3072) :
    k0_pay2 a0 a1 a2 (ix3 n s d) = Spec.h (args a0 a1 a2 a3 a4 a5 a6 a7 a8 a9 a10) n s d := by
  have e : rowMean (mulf (centred a0) (centred a0)) (ix3 n s 0) = var fun d => a0 (ix3 n s d) := by
    rw [rowMean_apply]
    unfold var
    congr 1
    refine Finset.sum_congr rfl fun d _ => ?_
    exact congrArg₂ (· * ·) (centred_apply a0 n s d) (centred_apply a0 n s d)
  rw [pay2_eq]
  show _ = (a0 (ix3 n s d) - mean fun d => a0 (ix3 n s d)) * Ideal.rsqrt ((var fun d => a0 (ix3 n s d)) + eps) * (1 + a2 (ix2 n d)) + a1 (ix2 n d)
  rw [← centred_apply, ← e, ← perSeq_apply a1 n 0 d, ← perSeq_apply a2 n 0 d, ← Ideal.ofBits_one_f32]
  pointwise

/-! ## The codes -/

/-- A number per sequence, as a block of one row and one column. -/
theorem perSeq1_apply (a : Vec Ideal S16 .f32) (n : Fin 16) (u v : Fin 1) :
    shapeCast S16x1x1 a shapeCasts_S16_S16x1x1 (ix3 n u v) = a (ix1 n) :=
  shapeCast_apply _ _ _ _ (by rw [Shape.rowMajor_val_one, Shape.rowMajor_val_three]; simp [ix1, ix3, S16, S16x1x1])

/-- The inverse static scales. -/
def recip : FVec Ideal S16 .f32 := divf (broadcast S16 (Scalar.ofBits .f32 0x3F800000#32)) a10

/-- The codes as the reference spells them. -/
theorem pay3_eq : k0_pay3 a0 a1 a2 a10 = truncf .fp8e4m3 (minimumf (broadcast S16x6144x3072 (Scalar.ofBits .f32 0x43E00000#32))
      (maximumf (broadcast S16x6144x3072 (Scalar.ofBits .f32 0xC3E00000#32)) (mulf (k0_pay2 a0 a1 a2)
        (broadcastTo S16x6144x3072 (shapeCast S16x1x1 (recip a10) shapeCasts_S16_S16x1x1)
          broadcasts_S16x1x1_S16x6144x3072)))) bitsLt_fp8e4m3_f32 := rfl

/-- The codes at an index. -/
theorem code_apply (n : Fin 16) (s : Fin 6144) (d : Fin 3072) :
    k0_pay3 a0 a1 a2 a10 (ix3 n s d) = Spec.code (args a0 a1 a2 a3 a4 a5 a6 a7 a8 a9 a10) n s d := by
  have e : shapeCast S16x1x1 (recip a10) shapeCasts_S16_S16x1x1 (ix3 n 0 0)
      = Ideal.div 1 (a10 (ix1 n)) := by
    rw [perSeq1_apply, ← Ideal.ofBits_one_f32]
    rfl
  rw [pay3_eq]
  show _ = clip (Spec.h (args a0 a1 a2 a3 a4 a5 a6 a7 a8 a9 a10) n s d * Ideal.div 1 (a10 (ix1 n)))
  rw [← h_apply, ← e]
  generalize k0_pay2 a0 a1 a2 = H
  unfold clip
  pointwise

/-- The codes with the conditioned and the unconditioned sequences apart, as the reference spells them. -/
theorem pay4_eq : k0_pay4 a0 a1 a2 a10 = shapeCast S2x8x6144x3072 (k0_pay3 a0 a1 a2 a10) shapeCasts_S16x6144x3072_S2x8x6144x3072 := rfl

/-- The third result at an index: the codes, the conditioned and the unconditioned sequences apart. -/
theorem codes_apply (h : Fin 2) (b : Fin 8) (s : Fin 6144) (d : Fin 3072) :
    RefValue.G13 a0 a1 a2 a3 a4 a5 a6 a7 a8 a9 a10 (ix4 h b s d)
      = Spec.code (args a0 a1 a2 a3 a4 a5 a6 a7 a8 a9 a10) ⟨8 * h.val + b.val, by omega⟩ s d := by
  rw [← code_apply]
  show k0_pay4 a0 a1 a2 a10 (ix4 h b s d) = _
  rw [pay4_eq]
  exact shapeCast_apply _ _ (ix4 h b s d) (ix3 (⟨8 * h.val + b.val, by omega⟩ : Fin 16) s d) (by rw [Shape.rowMajor_val_three, Shape.rowMajor_val_four]; simp [ix3, ix4, S16x6144x3072, S2x8x6144x3072]; omega)

/-! ## The magnitudes -/

/-- The word of minus infinity denotes the least extended real. -/
theorem neg_inf : Ideal.ofBits .f32 0xFF800000#32 = ⊥ := by simp [Ideal.ofBits, Ideal.ieee]

/-- The magnitudes as the reference spells them. -/
theorem pay5_eq (H : FVec Ideal S16x6144x3072 .f32) : k0_pay5 H = shapeCast S2x8x1x6144
    (multiReduction .maximumf [2] S16x6144 (absf H) 0xFF800000#32 reduces_S16x6144x3072_S16x6144 (.inl rfl) rfl) shapeCasts_S16x6144_S2x8x1x6144 := rfl

/-- The fourth result at an index: a row's greatest magnitude. -/
theorem amax_apply (h : Fin 2) (b : Fin 8) (u : Fin 1) (s : Fin 6144) :
    RefValue.G14 a0 a1 a2 a3 a4 a5 a6 a7 a8 a9 a10 (ix4 h b u s)
      = Spec.amax (args a0 a1 a2 a3 a4 a5 a6 a7 a8 a9 a10) ⟨8 * h.val + b.val, by omega⟩ s := by
  show k0_pay5 (k0_pay2 a0 a1 a2) (ix4 h b u s) = _
  rw [pay5_eq]
  refine (shapeCast_apply _ _ (ix4 h b u s) (ix2 ⟨8 * h.val + b.val, by omega⟩ s) ?_).trans ?_
  · rw [Shape.rowMajor_val_two, Shape.rowMajor_val_four]; simp [ix2, ix4, S16x6144, S2x8x1x6144]; omega
  · unfold Spec.amax
    simp only [← h_apply]
    generalize k0_pay2 a0 a1 a2 = H
    pointwise
    rw [neg_inf]
    rfl

/-! ## The velocities -/

/-- The features as the reference spells them: codes times weights, scaled twice and biased. -/
def feat (q : FVec Ideal S16x6144x3072 .fp8e4m3) : FVec Ideal S16x6144x64 .f32 :=
  addf (mulf (mulf (matmul (φ₂ := .fp8e4m3) dot_S16x6144x3072_S3072x64_S16x6144x64_2_0_01_1_n_n none q a3 (constant S16x6144x64 .f32 0x00000000#32))
      (broadcastTo S16x6144x64 (shapeCast S16x1x1 a10 shapeCasts_S16_S16x1x1) broadcasts_S16x1x1_S16x6144x64))
      (broadcastTo S16x6144x64 (shapeCast S1x1x64 a4 shapeCasts_S64_S1x1x64) broadcasts_S1x1x64_S16x6144x64))
    (broadcastTo S16x6144x64 (shapeCast S1x1x64 a5 shapeCasts_S64_S1x1x64) broadcasts_S1x1x64_S16x6144x64)

/-- A number per feature, as a block of one row. -/
theorem perFeat_apply (a : Vec Ideal S64 .f32) (u v : Fin 1) (p : Fin 64) :
    shapeCast S1x1x64 a shapeCasts_S64_S1x1x64 (ix3 u v p) = a (ix1 p) :=
  shapeCast_apply _ _ _ _ (by rw [Shape.rowMajor_val_one, Shape.rowMajor_val_three]; simp [ix1, ix3, S64, S1x1x64])

/-- The features at an index. -/
theorem feat_apply (q : FVec Ideal S16x6144x3072 .fp8e4m3) (n : Fin 16) (s : Fin 6144) (p : Fin 64) :
    feat a3 a4 a5 a10 q (ix3 n s p) = (∑ d : Fin 3072, q (ix3 n s d) * a3 (ix2 d p)) * a10 (ix1 n) * a4 (ix1 p) + a5 (ix1 p) := by
  have e : matmul (φ₂ := .fp8e4m3) dot_S16x6144x3072_S3072x64_S16x6144x64_2_0_01_1_n_n none q a3 (constant S16x6144x64 .f32 0x00000000#32) (ix3 n s p)
      = ∑ d : Fin 3072, q (ix3 n s d) * a3 (ix2 d p) := by
    pointwise
  rw [← e, ← perSeq1_apply a10 n 0 0, ← perFeat_apply a4 0 0 p, ← perFeat_apply a5 0 0 p]
  unfold feat
  generalize matmul (φ₂ := .fp8e4m3) dot_S16x6144x3072_S3072x64_S16x6144x64_2_0_01_1_n_n none q a3 (constant S16x6144x64 .f32 0x00000000#32) = M
  pointwise

/-- The guided features. -/
def guided (f : FVec Ideal S16x6144x64 .f32) : FVec Ideal S8x6144x64 .f32 :=
  addf (extractStridedSlice S8x6144x64 ![8, 0, 0] f slices_S16x6144x64_o8_0_0_S8x6144x64)
    (mulf (broadcastTo S8x6144x64 (shapeCast S8x1x1 a6 shapeCasts_S8_S8x1x1) broadcasts_S8x1x1_S8x6144x64)
      (subf (extractStridedSlice S8x6144x64 ![0, 0, 0] f slices_S16x6144x64_o0_0_0_S8x6144x64)
        (extractStridedSlice S8x6144x64 ![8, 0, 0] f slices_S16x6144x64_o8_0_0_S8x6144x64)))

/-- A number per batch entry, as a block of one row and one column. -/
theorem perBatch_apply (a : Vec Ideal S8 .f32) (b : Fin 8) (u v : Fin 1) :
    shapeCast S8x1x1 a shapeCasts_S8_S8x1x1 (ix3 b u v) = a (ix1 b) :=
  shapeCast_apply _ _ _ _ (by rw [Shape.rowMajor_val_one, Shape.rowMajor_val_three]; simp [ix1, ix3, S8, S8x1x1])

/-- The guided features at an index. -/
theorem guided_apply (f : FVec Ideal S16x6144x64 .f32) (b : Fin 8) (s : Fin 6144) (p : Fin 64) :
    guided a6 f (ix3 b s p) = f (ix3 ⟨8 + b.val, by omega⟩ s p)
      + a6 (ix1 b) * (f (ix3 ⟨b.val, by omega⟩ s p) - f (ix3 ⟨8 + b.val, by omega⟩ s p)) := by
  have e0 : extractStridedSlice S8x6144x64 ![0, 0, 0] f slices_S16x6144x64_o0_0_0_S8x6144x64 (ix3 b s p) = f (ix3 ⟨b.val, by omega⟩ s p) := by
    refine congrArg f ?_
    funext a; apply Fin.ext; fin_cases a <;> simp [ix3]
  have e8 : extractStridedSlice S8x6144x64 ![8, 0, 0] f slices_S16x6144x64_o8_0_0_S8x6144x64 (ix3 b s p) = f (ix3 ⟨8 + b.val, by omega⟩ s p) := by
    refine congrArg f ?_
    funext a; apply Fin.ext; fin_cases a <;> simp [ix3]
  rw [← e0, ← e8, ← perBatch_apply a6 b 0 0]
  unfold guided
  generalize extractStridedSlice S8x6144x64 ![0, 0, 0] f slices_S16x6144x64_o0_0_0_S8x6144x64 = f0
  generalize extractStridedSlice S8x6144x64 ![8, 0, 0] f slices_S16x6144x64_o8_0_0_S8x6144x64 = f8
  pointwise

/-- Rows of features laid out as an image. -/
def image (v : FVec Ideal S8x6144x64 .f32) : FVec Ideal S8x16x192x128 .f32 :=
  shapeCast S8x16x192x128 (transpose S8x16x96x2x64x2 [0, 5, 1, 3, 2, 4]
    (shapeCast S8x96x64x2x2x16 v shapeCasts_S8x6144x64_S8x96x64x2x2x16) transposes_S8x96x64x2x2x16_p0_5_1_3_2_4_S8x16x96x2x64x2)
    shapeCasts_S8x16x96x2x64x2_S8x16x192x128

/-- The image at an index. -/
theorem image_apply (v : FVec Ideal S8x6144x64 .f32) (b : Fin 8) (ch : Fin 16) (y : Fin 192) (l : Fin 128) :
    image v (ix4 b ch y l) = v (ix3 b ⟨64 * (y.val / 2) + l.val / 2, by omega⟩ ⟨32 * (y.val % 2) + 16 * (l.val % 2) + ch.val, by omega⟩) := by
  refine (shapeCast_apply _ _ _ (ix6 b ch (⟨y.val / 2, by omega⟩ : Fin 96) (⟨y.val % 2, by omega⟩ : Fin 2) (⟨l.val / 2, by omega⟩ : Fin 64) (⟨l.val % 2, by omega⟩ : Fin 2)) ?_).trans ?_
  · rw [Shape.rowMajor_val_six, Shape.rowMajor_val_four]; simp [ix6, ix4, S8x16x96x2x64x2, S8x16x192x128]; omega
  · have e : transpose S8x16x96x2x64x2 [0, 5, 1, 3, 2, 4] (shapeCast S8x96x64x2x2x16 v shapeCasts_S8x6144x64_S8x96x64x2x2x16)
        transposes_S8x96x64x2x2x16_p0_5_1_3_2_4_S8x16x96x2x64x2
        (ix6 b ch (⟨y.val / 2, by omega⟩ : Fin 96) (⟨y.val % 2, by omega⟩ : Fin 2) (⟨l.val / 2, by omega⟩ : Fin 64) (⟨l.val % 2, by omega⟩ : Fin 2))
        = shapeCast S8x96x64x2x2x16 v shapeCasts_S8x6144x64_S8x96x64x2x2x16
          (ix6 b (⟨y.val / 2, by omega⟩ : Fin 96) (⟨l.val / 2, by omega⟩ : Fin 64) (⟨y.val % 2, by omega⟩ : Fin 2) (⟨l.val % 2, by omega⟩ : Fin 2) ch) := by
      generalize shapeCast S8x96x64x2x2x16 v shapeCasts_S8x6144x64_S8x96x64x2x2x16 = w
      pointwise
    rw [e]
    refine shapeCast_apply _ _ _ (ix3 b (⟨64 * (y.val / 2) + l.val / 2, by omega⟩ : Fin 6144) (⟨32 * (y.val % 2) + 16 * (l.val % 2) + ch.val, by omega⟩ : Fin 64)) ?_
    rw [Shape.rowMajor_val_three, Shape.rowMajor_val_six]; simp [ix6, ix3, S8x6144x64, S8x96x64x2x2x16]; omega

/-- The velocities as the reference spells them. -/
theorem pay6_eq (q : FVec Ideal S16x6144x3072 .fp8e4m3) : k0_pay6 a10 q a3 a4 a5 a6 = image (guided a6 (feat a3 a4 a5 a10 q)) := rfl

/-- The velocities at an index. -/
theorem img_apply (b : Fin 8) (ch : Fin 16) (y : Fin 192) (l : Fin 128) :
    k0_pay6 a10 (k0_pay3 a0 a1 a2 a10) a3 a4 a5 a6 (ix4 b ch y l) = Spec.img (args a0 a1 a2 a3 a4 a5 a6 a7 a8 a9 a10) b ch y l := by
  rw [pay6_eq, image_apply, guided_apply, feat_apply, feat_apply]
  simp only [code_apply a0 a1 a2 a3 a4 a5 a6 a7 a8 a9 a10]
  rfl

/-- The codes named for later use are the codes. -/
theorem pay8_eq : k0_pay8 a0 a1 a2 a3 a4 a5 a6 a7 a8 a9 a10 = k0_pay3 a0 a1 a2 a10 := by
  unfold k0_pay8
  rw [View.ld_unit_zero (S := S16x6144x3072) RefValue.hz0 _ a0, View.ld_unit_zero (S := S16x3072) RefValue.hz1 _ a1, View.ld_unit_zero (S := S16x3072) RefValue.hz1 _ a2, View.ld_unit_zero (S := S16) RefValue.hz4 _ a10]

/-- The second result at an index: the velocities. -/
theorem v_apply (b : Fin 8) (ch : Fin 16) (y : Fin 192) (l : Fin 128) :
    RefValue.G12 a0 a1 a2 a3 a4 a5 a6 a7 a8 a9 a10 (ix4 b ch y l) = Spec.img (args a0 a1 a2 a3 a4 a5 a6 a7 a8 a9 a10) b ch y l := by
  unfold RefValue.G12
  rw [pay8_eq, ← img_apply]
  generalize k0_pay6 a10 (k0_pay3 a0 a1 a2 a10) a3 a4 a5 a6 = I
  rfl

/-- A number per batch entry, as a block of one point. -/
theorem perImg_apply (a : Vec Ideal S8 .f32) (b : Fin 8) (u v w : Fin 1) :
    shapeCast S8x1x1x1 a shapeCasts_S8_S8x1x1x1 (ix4 b u v w) = a (ix1 b) :=
  shapeCast_apply _ _ _ _ (by rw [Shape.rowMajor_val_one, Shape.rowMajor_val_four]; simp [ix1, ix4, S8, S8x1x1x1])

/-- The new latent as the reference spells it. -/
theorem pay7_eq (q : FVec Ideal S16x6144x3072 .fp8e4m3) : k0_pay7 a10 q a3 a4 a5 a6 a9 a8 a7 = addf a9 (mulf
    (broadcastTo S8x16x192x128 (shapeCast S8x1x1x1 (subf a8 a7) shapeCasts_S8_S8x1x1x1) broadcasts_S8x1x1x1_S8x16x192x128)
    (k0_pay6 a10 q a3 a4 a5 a6)) := rfl

/-- The first result at an index: the new latent. -/
theorem lat_apply (b : Fin 8) (ch : Fin 16) (y : Fin 192) (l : Fin 128) :
    RefValue.G11 a0 a1 a2 a3 a4 a5 a6 a7 a8 a9 a10 (ix4 b ch y l) = Spec.lat (args a0 a1 a2 a3 a4 a5 a6 a7 a8 a9 a10) b ch y l := by
  unfold RefValue.G11
  rw [pay8_eq, pay7_eq]
  unfold Spec.lat
  rw [← img_apply]
  show _ = a9 (ix4 b ch y l) + (subf a8 a7 : FVec Ideal S8 .f32) (ix1 b) * _
  rw [← perImg_apply (subf a8 a7 : FVec Ideal S8 .f32) b 0 0 0]
  generalize k0_pay6 a10 (k0_pay3 a0 a1 a2 a10) a3 a4 a5 a6 = I
  generalize shapeCast S8x1x1x1 (subf a8 a7 : FVec Ideal S8 .f32) shapeCasts_S8_S8x1x1x1 = E
  pointwise

end Cert.Proof.RefRead

end
-- ==== Proof.Algebraic.lean ====
/-
  The precondition read at an index, and the four results of the kernel and of the reference equal under it.
-/
module

public import proofs.«01_k».proof.Defs
public import proofs.«01_k».proof.Proof.Gen.Pre_ordinary
public import proofs.«01_k».proof.Proof.KerRead
public import proofs.«01_k».proof.Proof.RefRead

@[expose] public section

set_option maxRecDepth 16384
set_option maxHeartbeats 400000

noncomputable section

namespace Cert.Proof.Algebraic

open Idealize.ShloMosaic Idealize.ShloMosaic.TcCoe Idealize.SL.Sem
open Cert.Proof.RowMath Cert.Proof.Sweep

/-! ## The precondition -/

/-- The word of plus infinity denotes the greatest extended real. -/
theorem pos_inf : Ideal.ofBits .f32 0x7F800000#32 = ⊤ := by simp [Ideal.ofBits, Ideal.ieee]

/-- The zero word denotes zero. -/
theorem zero_word : Ideal.ofBits .f32 0x00000000#32 = 0 := by simp [Ideal.ofBits, Ideal.ieee]

/-- An extended real whose magnitude is below plus infinity is real. -/
theorem real_of_mag (x : EReal) (h : max x (-x) < ⊤) : ∃ r : ℝ, x = (r : EReal) := by
  induction x using EReal.rec with
  | bot => simp at h
  | coe r => exact ⟨r, rfl⟩
  | top => simp at h

/-- An extended real between zero and plus infinity is a positive real. -/
theorem pos_of_between (x : EReal) (h0 : 0 < x) (h1 : x < ⊤) : ∃ r : ℝ, 0 < r ∧ x = (r : EReal) := by
  induction x using EReal.rec with
  | bot => simp at h0
  | coe r => exact ⟨r, by exact_mod_cast h0, rfl⟩
  | top => simp at h1

/-- A comparison that gives one holds. -/
theorem of_bool (b : Bool) (h : BitVec.ofBool b = 1#1) : b = true := by cases b <;> simp_all

/-- Two comparisons whose conjunction is one are one. -/
theorem and_one (x y : BitVec 1) (h : x &&& y = 1#1) : x = 1#1 ∧ y = 1#1 := by
  revert x y; decide

section
open Cert.KernelIdeal Cert.KernelIdeal.Gen

/-- Under the precondition the activations are real and the static scales positive reals. -/
theorem ordinary (m : (ℓ : Loc nD τ sig) → Buf (Elt Ideal) ℓ) (H : Cert.Pre_KernelIdeal_ordinary m) (c : Dev nD) :
    KerRead.Ordinary m c := by
  obtain ⟨hx, hs⟩ := H c
  constructor
  · intro n s d
    have e : Ideal.cmp .olt (max (aX m c (ix3 n s d)) (-(aX m c (ix3 n s d)))) (Ideal.ofBits .f32 0x7F800000#32) = 1#1 :=
      congrFun hx (ix3 n s d)
    rw [pos_inf] at e
    exact real_of_mag _ (of_decide_eq_true (of_bool _ e))
  · intro n
    have e : Ideal.cmp .ogt (aXs m c (ix1 n)) (Ideal.ofBits .f32 0x00000000#32)
        &&& Ideal.cmp .olt (aXs m c (ix1 n)) (Ideal.ofBits .f32 0x7F800000#32) = 1#1 :=
      congrFun hs (ix1 n)
    obtain ⟨e0, e1⟩ := and_one _ _ e
    rw [zero_word] at e0
    rw [pos_inf] at e1
    exact pos_of_between _ (of_decide_eq_true (of_bool _ e0)) (of_decide_eq_true (of_bool _ e1))

variable {m : (ℓ : Loc nD τ sig) → Buf (Elt Ideal) ℓ} {c : Dev nD}

/-! ## The four results -/

/-- The reference's new latent are the kernel's. -/
theorem result11 (H : KerRead.Ordinary m c) :
    RefValue.G11 (aX m c) (aShift m c) (aScale m c) (aW m c) (aWs m c) (aBias m c) (aGuid m c) (aT m c) (aTn m c) (aLat m c) (aXs m c)
      = (Value.G11 m c : Vec Ideal S8x16x192x128 .f32) := by
  funext i
  obtain ⟨b, ch, y, l, rfl⟩ : ∃ (b : Fin 8) (ch : Fin 16) (y : Fin 192) (l : Fin 128), i = ix4 b ch y l := ⟨i 0, i 1, i 2, i 3, eq_ix4 i⟩
  exact (RefRead.lat_apply (aX m c) (aShift m c) (aScale m c) (aW m c) (aWs m c) (aBias m c) (aGuid m c) (aT m c) (aTn m c) (aLat m c) (aXs m c) b ch y l).trans (KerRead.lat_apply H b ch y l).symm

/-- The reference's velocities are the kernel's. -/
theorem result12 (H : KerRead.Ordinary m c) :
    RefValue.G12 (aX m c) (aShift m c) (aScale m c) (aW m c) (aWs m c) (aBias m c) (aGuid m c) (aT m c) (aTn m c) (aLat m c) (aXs m c)
      = (Value.G12 m c : Vec Ideal S8x16x192x128 .bf16) := by
  funext i
  obtain ⟨b, ch, y, l, rfl⟩ : ∃ (b : Fin 8) (ch : Fin 16) (y : Fin 192) (l : Fin 128), i = ix4 b ch y l := ⟨i 0, i 1, i 2, i 3, eq_ix4 i⟩
  exact (RefRead.v_apply (aX m c) (aShift m c) (aScale m c) (aW m c) (aWs m c) (aBias m c) (aGuid m c) (aT m c) (aTn m c) (aLat m c) (aXs m c) b ch y l).trans (KerRead.v_apply H b ch y l).symm

/-- The reference's codes are the kernel's. -/
theorem result13 (H : KerRead.Ordinary m c) :
    RefValue.G13 (aX m c) (aShift m c) (aScale m c) (aW m c) (aWs m c) (aBias m c) (aGuid m c) (aT m c) (aTn m c) (aLat m c) (aXs m c)
      = (Value.G13 m c : Vec Ideal S2x8x6144x3072 .fp8e4m3) := by
  funext i
  obtain ⟨h, b, s, d, rfl⟩ : ∃ (h : Fin 2) (b : Fin 8) (s : Fin 6144) (d : Fin 3072), i = ix4 h b s d := ⟨i 0, i 1, i 2, i 3, eq_ix4 i⟩
  exact (RefRead.codes_apply (aX m c) (aShift m c) (aScale m c) (aW m c) (aWs m c) (aBias m c) (aGuid m c) (aT m c) (aTn m c) (aLat m c) (aXs m c) h b s d).trans (KerRead.codes_apply H h b s d).symm

/-- The reference's magnitudes are the kernel's. -/
theorem result14 (H : KerRead.Ordinary m c) :
    RefValue.G14 (aX m c) (aShift m c) (aScale m c) (aW m c) (aWs m c) (aBias m c) (aGuid m c) (aT m c) (aTn m c) (aLat m c) (aXs m c)
      = (Value.G14 m c : Vec Ideal S2x8x1x6144 .f32) := by
  funext i
  obtain ⟨h, b, u, s, rfl⟩ : ∃ (h : Fin 2) (b : Fin 8) (u : Fin 1) (s : Fin 6144), i = ix4 h b u s := ⟨i 0, i 1, i 2, i 3, eq_ix4 i⟩
  exact (RefRead.amax_apply (aX m c) (aShift m c) (aScale m c) (aW m c) (aWs m c) (aBias m c) (aGuid m c) (aT m c) (aTn m c) (aLat m c) (aXs m c) h b u s).trans (KerRead.amax_apply H h b u s).symm

end

/-! ## The claim -/

/-- From memories that agree on the arguments, under the precondition, the kernel and the reference leave the same four
    arrays and keep their arguments. -/
theorem algebraic : Cert.algebraic_KernelIdeal_ReferenceIdeal_pre_ordinary := by
  intro m g m' g' H hargs
  refine ⟨fun c => Cert.KernelIdeal.Value.G11 m c, fun c => Cert.KernelIdeal.Value.G12 m c, fun c => Cert.KernelIdeal.Value.G13 m c,
    fun c => Cert.KernelIdeal.Value.G14 m c, Cert.KernelIdeal.Value.run m g, θ_run_mono (RefValue.run m' g') ?_⟩
  intro r hr c
  obtain ⟨h11, h12, h13, h14, hk⟩ := hr c
  obtain ⟨e0, e1, e2, e3, e4, e5, e6, e7, e8, e9, e10⟩ := hargs c
  rw [e0, e1, e2, e3, e4, e5, e6, e7, e8, e9, e10] at h11 h12 h13 h14
  have o := ordinary m H c
  exact ⟨h11.trans (result11 o), h12.trans (result12 o), h13.trans (result13 o), h14.trans (result14 o), hk⟩

end Cert.Proof.Algebraic

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Frame
public import proofs.«01_k».proof.Proof.Gen.Pre_ordinary
public import proofs.«01_k».proof.Proof.Algebraic
public import Idealize.ShloMosaic.Adequacy
public import Idealize.ShloMosaic.Init

@[expose] public section

noncomputable section

namespace Cert.Proof

open Idealize.ShloMosaic Idealize.SL.Sem

/-- The constant the idealized kernel names `inv_d` stands for the real 1/3072 at the word the kernel holds. -/
theorem preserves : Cert.preserves_Kernel_KernelIdeal :=
  IdealRules.named_const.statement Cert.KernelIdeal.κ "inv_d" .f32 0x39AAAAAB#32 _ rfl

/-- Everything claimed. -/
theorem claim : Cert.Claim :=
  ⟨Cert.Kernel.Gen.facts, Cert.KernelIdeal.Gen.facts, Cert.ReferenceIdeal.Gen.facts, Cert.Pre_ordinary.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, preserves, Algebraic.algebraic⟩

end Cert.Proof

end
